-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x4096x128 : Shape := ⟨3, ![2, 4096, 128]⟩
abbrev S2x4096x4096 : Shape := ⟨3, ![2, 4096, 4096]⟩
abbrev S128x128 : Shape := ⟨2, ![128, 128]⟩
abbrev S128 : Shape := ⟨1, ![128]⟩
abbrev S_ : Shape := ⟨0, ![]⟩

class Facts : Prop where
  bcast_S_S2x4096x128 : S_.BroadcastsInDim S2x4096x128 (![] : Fin 0 → Fin S2x4096x128.rank)
  bcast_S_S2x4096x4096 : S_.BroadcastsInDim S2x4096x4096 (![] : Fin 0 → Fin S2x4096x4096.rank)
  bcast_S_S128x128 : S_.BroadcastsInDim S128x128 (![] : Fin 0 → Fin S128x128.rank)
  bcast_S_S128 : S_.BroadcastsInDim S128 (![] : Fin 0 → Fin S128.rank)

variable [Facts]

def fn_part2 {F : FTy → Type} [FloatOps F] (main_arg12 : FVec F S128 .f32) (main_v2 : IVec S2x4096x128 1) (main_v5 : IVec S2x4096x4096 1) (main_v8 : IVec S128x128 1) (main_v11 : IVec S128 1) (main_v14 : IVec S128 1) (main_v17 : IVec S128 1) (main_v20 : IVec S128x128 1) (main_v23 : IVec S128 1) (main_v26 : IVec S128 1) (main_v29 : IVec S128 1) (main_v32 : IVec S128x128 1) (main_v35 : IVec S128 1) : IVec S2x4096x128 1 × IVec S2x4096x4096 1 × IVec S128x128 1 × IVec S128 1 × IVec S128 1 × IVec S128 1 × IVec S128x128 1 × IVec S128 1 × IVec S128 1 × IVec S128 1 × IVec S128x128 1 × IVec S128 1 × IVec S128 1 :=
  let main_v36 : FVec F S128 .f32 := Host.absf main_arg12
  let main_cst_11 : FVec F S_ .f32 := constant S_ .f32 0x7F800000#32
  let main_v37 : FVec F S128 .f32 := broadcastInDim S128 ![] bcast_S_S128 main_cst_11
  let main_v38 : IVec S128 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_v2 : IVec S2x4096x128 1) (main_v5 : IVec S2x4096x4096 1) (main_v8 : IVec S128x128 1) (main_v11 : IVec S128 1) (main_v14 : IVec S128 1) (main_v17 : IVec S128 1) : IVec S2x4096x128 1 × IVec S2x4096x4096 1 × IVec S128x128 1 × IVec S128 1 × IVec S128 1 × IVec S128 1 × IVec S128x128 1 × IVec S128 1 × IVec S128 1 × IVec S128 1 × IVec S128x128 1 × IVec S128 1 × IVec S128 1 :=
  let main_v18 : FVec F S128x128 .f32 := Host.absf main_arg6
  let main_cst_5 : FVec F S_ .f32 := constant S_ .f32 0x7F800000#32
  let main_v19 : FVec F S128x128 .f32 := broadcastInDim S128x128 ![] bcast_S_S128x128 main_cst_5
  let main_v20 : IVec S128x128 1 := cmpf .olt main_v18 main_v19
  let main_v21 : FVec F S128 .f32 := Host.absf main_arg7
  let main_cst_6 : FVec F S_ .f32 := constant S_ .f32 0x7F800000#32
  let main_v22 : FVec F S128 .f32 := broadcastInDim S128 ![] bcast_S_S128 main_cst_6
  let main_v23 : IVec S128 1 := cmpf .olt main_v21 main_v22
  let main_v24 : FVec F S128 .f32 := Host.absf main_arg8
  let main_cst_7 : FVec F S_ .f32 := constant S_ .f32 0x7F800000#32
  let main_v25 : FVec F S128 .f32 := broadcastInDim S128 ![] bcast_S_S128 main_cst_7
  let main_v26 : IVec S128 1 := cmpf .olt main_v24 main_v25
  let main_v27 : FVec F S128 .f32 := Host.absf main_arg9
  let main_cst_8 : FVec F S_ .f32 := constant S_ .f32 0x7F800000#32
  let main_v28 : FVec F S128 .f32 := broadcastInDim S128 ![] bcast_S_S128 main_cst_8
  let main_v29 : IVec S128 1 := cmpf .olt main_v27 main_v28
  let main_v30 : FVec F S128x128 .f32 := Host.absf main_arg10
  let main_cst_9 : FVec F S_ .f32 := constant S_ .f32 0x7F800000#32
  let main_v31 : FVec F S128x128 .f32 := broadcastInDim S128x128 ![] bcast_S_S128x128 main_cst_9
  let main_v32 : IVec S128x128 1 := cmpf .olt main_v30 main_v31
  let main_v33 : FVec F S128 .f32 := Host.absf main_arg11
  let main_cst_10 : FVec F S_ .f32 := constant S_ .f32 0x7F800000#32
  let main_v34 : FVec F S128 .f32 := broadcastInDim S128 ![] bcast_S_S128 main_cst_10
  let main_v35 : IVec S128 1 := cmpf .olt main_v33 main_v34
  fn_part2 (F := F) main_arg12 main_v2 main_v5 main_v8 main_v11 main_v14 main_v17 main_v20 main_v23 main_v26 main_v29 main_v32 main_v35

def fn {F : FTy → Type} [FloatOps F] (main_arg0 : FVec F S2x4096x128 .f32) (main_arg1 : FVec F S2x4096x4096 .f32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) : IVec S2x4096x128 1 × IVec S2x4096x4096 1 × IVec S128x128 1 × IVec S128 1 × IVec S128 1 × IVec S128 1 × IVec S128x128 1 × IVec S128 1 × IVec S128 1 × IVec S128 1 × IVec S128x128 1 × IVec S128 1 × IVec S128 1 :=
  let main_v0 : FVec F S2x4096x128 .f32 := Host.absf main_arg0
  let main_cst : FVec F S_ .f32 := constant S_ .f32 0x7F800000#32
  let main_v1 : FVec F S2x4096x128 .f32 := broadcastInDim S2x4096x128 ![] bcast_S_S2x4096x128 main_cst
  let main_v2 : IVec S2x4096x128 1 := cmpf .olt main_v0 main_v1
  let main_v3 : FVec F S2x4096x4096 .f32 := Host.absf main_arg1
  let main_cst_0 : FVec F S_ .f32 := constant S_ .f32 0x7F800000#32
  let main_v4 : FVec F S2x4096x4096 .f32 := broadcastInDim S2x4096x4096 ![] bcast_S_S2x4096x4096 main_cst_0
  let main_v5 : IVec S2x4096x4096 1 := cmpf .olt main_v3 main_v4
  let main_v6 : FVec F S128x128 .f32 := Host.absf main_arg2
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128 .f32 := Host.absf main_arg4
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128 .f32 := Host.absf main_arg5
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg6 main_arg7 main_arg8 main_arg9 main_arg10 main_arg11 main_arg12 main_v2 main_v5 main_v8 main_v11 main_v14 main_v17
-- ==== Kernel.lean ====
abbrev S2x4096x128 : Shape := ⟨3, ![2, 4096, 128]⟩
abbrev S2x4096x4096 : Shape := ⟨3, ![2, 4096, 4096]⟩
abbrev S128x128 : Shape := ⟨2, ![128, 128]⟩
abbrev S128 : Shape := ⟨1, ![128]⟩
abbrev S1x128 : Shape := ⟨2, ![1, 128]⟩
abbrev S1x4096x128 : Shape := ⟨3, ![1, 4096, 128]⟩
abbrev S1x1024x4096 : Shape := ⟨3, ![1, 1024, 4096]⟩
abbrev S1x1024x128 : Shape := ⟨3, ![1, 1024, 128]⟩
abbrev S4096x128 : Shape := ⟨2, ![4096, 128]⟩
abbrev S1024x4096 : Shape := ⟨2, ![1024, 4096]⟩
abbrev S1024x128 : Shape := ⟨2, ![1024, 128]⟩
abbrev S1x1024x1024 : Shape := ⟨3, ![1, 1024, 1024]⟩
abbrev S1024x1024 : Shape := ⟨2, ![1024, 1024]⟩
abbrev S1024 : Shape := ⟨1, ![1024]⟩
abbrev S1024x1 : Shape := ⟨2, ![1024, 1]⟩
abbrev S4096x256 : Shape := ⟨2, ![4096, 256]⟩
abbrev S2x128 : Shape := ⟨2, ![2, 128]⟩
abbrev S1024x256 : Shape := ⟨2, ![1024, 256]⟩

abbrev nBuf : Space → Nat
  | .hbm => 31
  | .vmem => 42
  | .smem => 0
  | _ => 0

abbrev bufTy : (tb : Table) → Fin (tcTables nBuf tb) → BufTy
  | .hbm, ⟨0, _⟩ => ⟨S2x4096x128, .f32⟩
  | .hbm, ⟨1, _⟩ => ⟨S2x4096x4096, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x128, .f32⟩
  | .hbm, ⟨15, _⟩ => ⟨S2x4096x128, .f32⟩
  | .hbm, ⟨16, _⟩ => ⟨S1x128, .f32⟩
  | .hbm, ⟨17, _⟩ => ⟨S1x128, .f32⟩
  | .hbm, ⟨18, _⟩ => ⟨S2x4096x4096, .bf16⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S2x4096x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S2x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x1024x4096, .f32⟩
  | .local _ .vmem, ⟨3, _⟩ => ⟨S1x1024x4096, .f32⟩
  | .local _ .vmem, ⟨4, _⟩ => ⟨S128x128, .f32⟩
  | .local _ .vmem, ⟨5, _⟩ => ⟨S1x128, .f32⟩
  | .local _ .vmem, ⟨6, _⟩ => ⟨S1x1024x128, .f32⟩
  | .local _ .vmem, ⟨7, _⟩ => ⟨S1x1024x128, .f32⟩
  | .local _ .vmem, ⟨8, _⟩ => ⟨S1x128, .f32⟩
  | .local _ .vmem, ⟨9, _⟩ => ⟨S1x128, .f32⟩
  | .local _ .vmem, ⟨10, _⟩ => ⟨S1x1024x4096, .bf16⟩
  | .local _ .vmem, ⟨11, _⟩ => ⟨S1x1024x4096, .bf16⟩
  | .local _ .vmem, ⟨12, _⟩ => ⟨S4096x128, .f32⟩
  | .local _ .vmem, ⟨13, _⟩ => ⟨S1x4096x128, .f32⟩
  | .local _ .vmem, ⟨14, _⟩ => ⟨S1x4096x128, .f32⟩
  | .local _ .vmem, ⟨15, _⟩ => ⟨S1x1024x4096, .bf16⟩
  | .local _ .vmem, ⟨16, _⟩ => ⟨S1x1024x4096, .bf16⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S1x1024x128, .f32⟩
  | .local _ .vmem, ⟨28, _⟩ => ⟨S1x1024x128, .f32⟩
  | .local _ .vmem, ⟨29, _⟩ => ⟨S1x128, .f32⟩
  | .local _ .vmem, ⟨30, _⟩ => ⟨S1x128, .f32⟩
  | .local _ .vmem, ⟨31, _⟩ => ⟨S4096x256, .bf16⟩
  | .local _ .vmem, ⟨32, _⟩ => ⟨S2x4096x128, .f32⟩
  | .local _ .vmem, ⟨33, _⟩ => ⟨S2x128, .f32⟩
  | .local _ .vmem, ⟨34, _⟩ => ⟨S1x1024x128, .f32⟩
  | .local _ .vmem, ⟨35, _⟩ => ⟨S1x1024x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x1024x128, .f32⟩
  | .local _ .vmem, ⟨41, _⟩ => ⟨S1x1024x128, .f32⟩
  | _, _ => ⟨S2x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1_0 : Ref sig .tc := ⟨.hbm, 15, rfl⟩
abbrev main_v1_1 : Ref sig .tc := ⟨.hbm, 16, rfl⟩
abbrev main_v1_2 : Ref sig .tc := ⟨.hbm, 17, rfl⟩
abbrev main_v1_3 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg12_1 : Ref sig .tc := ⟨.vmem, 28, rfl⟩
abbrev cc1_stg13_0 : Ref sig .tc := ⟨.vmem, 29, rfl⟩
abbrev cc1_stg14_0 : Ref sig .tc := ⟨.vmem, 30, rfl⟩
abbrev cc1_scratch0 : Ref sig .tc := ⟨.vmem, 31, rfl⟩
abbrev cc1_scratch1 : Ref sig .tc := ⟨.vmem, 32, rfl⟩
abbrev cc1_scratch2 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg5_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem12_1 : DmaSem sig := 27
abbrev cc1_sem13_0 : DmaSem sig := 28
abbrev cc1_sem14_0 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem5_1 : DmaSem sig := 37

abbrev nD : Nat := 1
abbrev τ : Topo := Topo.v7x

variable {F : FTy → Type} [FloatOps F]

abbrev grid0 : Pipeline.Grid := ⟨2, ![2, 4], ![false, false]⟩

def k0_off1 (i : grid0.Coords) : Fin 3 → Nat :=
  let c0_8 : Index := 0#32
  let c0_9 : Index := 0#32
  let arg1 : BitVec 32 := BitVec.ofNat 32 (i 1).val
  let c1024_i32 : BitVec 32 := 1024#32
  let v12 : BitVec 32 := Scalar.muli arg1 c1024_i32
  let v13 : Index := Scalar.indexCast v12
  ![0, 0, v13.toNat]
def k0_off2 (i : grid0.Coords) : Fin 2 → Nat :=
  let arg1 : BitVec 32 := BitVec.ofNat 32 (i 1).val
  let c1024_i32_12 : BitVec 32 := 1024#32
  let v22 : BitVec 32 := Scalar.muli arg1 c1024_i32_12
  let v23 : Index := Scalar.indexCast v22
  let c0_13 : Index := 0#32
  ![v23.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨3, ![2, 2, 4], ![false, false, false]⟩

def k1_cond4 (i : grid1.Coords) : BitVec 1 :=
  let arg0 : BitVec 32 := BitVec.ofNat 32 (i 0).val
  let c1_i32_9 : BitVec 32 := 1#32
  let v19 : BitVec 1 := Scalar.cmpi .eq arg0 c1_i32_9
  let arg2 : BitVec 32 := BitVec.ofNat 32 (i 2).val
  let c0_i32_10 : BitVec 32 := 0#32
  let v20 : BitVec 1 := Scalar.cmpi .eq arg2 c0_i32_10
  let v21 : BitVec 1 := Scalar.andi v19 v20
  let v22 : BitVec 32 := Scalar.extui v21
  let c0_i32_11 : BitVec 32 := 0#32
  let v23 : BitVec 1 := Scalar.cmpi .ne v22 c0_i32_11
  v23

def k1_off1 (i : grid1.Coords) : Fin 3 → Nat :=
  let arg1 : BitVec 32 := BitVec.ofNat 32 (i 1).val
  let v75 : Index := Scalar.indexCast arg1
  let c0_41 : Index := 0#32
  let c0_42 : Index := 0#32
  ![v75.toNat, 0, 0]
def k1_cond5 (i : grid1.Coords) : BitVec 1 :=
  let arg0 : BitVec 32 := BitVec.ofNat 32 (i 0).val
  let c0_i32_25 : BitVec 32 := 0#32
  let v44 : BitVec 1 := Scalar.cmpi .eq arg0 c0_i32_25
  let v45 : BitVec 32 := Scalar.extui v44
  let c0_i32_26 : BitVec 32 := 0#32
  let v46 : BitVec 1 := Scalar.cmpi .ne v45 c0_i32_26
  v46

def k1_off2 (i : grid1.Coords) : Fin 3 → Nat :=
  let arg1 : BitVec 32 := BitVec.ofNat 32 (i 1).val
  let v51 : Index := Scalar.indexCast arg1
  let arg2 : BitVec 32 := BitVec.ofNat 32 (i 2).val
  let c1024_i32 : BitVec 32 := 1024#32
  let v50 : BitVec 32 := Scalar.muli arg2 c1024_i32
  let v52 : Index := Scalar.indexCast v50
  let c0_29 : Index := 0#32
  ![v51.toNat, v52.toNat, 0]
def k1_cond2 (i : grid1.Coords) : BitVec 1 :=
  let arg0 : BitVec 32 := BitVec.ofNat 32 (i 0).val
  let c1_i32 : BitVec 32 := 1#32
  let v7 : BitVec 1 := Scalar.cmpi .eq arg0 c1_i32
  let arg1 : BitVec 32 := BitVec.ofNat 32 (i 1).val
  let c0_i32_3 : BitVec 32 := 0#32
  let v8 : BitVec 1 := Scalar.cmpi .eq arg1 c0_i32_3
  let arg2 : BitVec 32 := BitVec.ofNat 32 (i 2).val
  let c0_i32_4 : BitVec 32 := 0#32
  let v9 : BitVec 1 := Scalar.cmpi .eq arg2 c0_i32_4
  let v10 : BitVec 1 := Scalar.andi v8 v9
  let v11 : BitVec 1 := Scalar.andi v7 v10
  let v12 : BitVec 32 := Scalar.extui v11
  let c0_i32_5 : BitVec 32 := 0#32
  let v13 : BitVec 1 := Scalar.cmpi .ne v12 c0_i32_5
  v13

def k1_cond6 (i : grid1.Coords) : BitVec 1 :=
  let arg0 : BitVec 32 := BitVec.ofNat 32 (i 0).val
  let c1_i32_27 : BitVec 32 := 1#32
  let v47 : BitVec 1 := Scalar.cmpi .eq arg0 c1_i32_27
  let v48 : BitVec 32 := Scalar.extui v47
  let c0_i32_28 : BitVec 32 := 0#32
  let v49 : BitVec 1 := Scalar.cmpi .ne v48 c0_i32_28
  v49

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_13 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S1x1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false, false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false, false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false, false]

abbrev stage1_12 : Fin 2 → Memref sig .tc .vmem S1x1024x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![false, true, true]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false, false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false, false]

abbrev grid2 : Pipeline.Grid := ⟨2, ![2, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S2x4096x128 : Shape := ⟨3, ![2, 4096, 128]⟩
abbrev S2x4096x4096 : Shape := ⟨3, ![2, 4096, 4096]⟩
abbrev S128x128 : Shape := ⟨2, ![128, 128]⟩
abbrev S128 : Shape := ⟨1, ![128]⟩
abbrev S4096x4096 : Shape := ⟨2, ![4096, 4096]⟩
abbrev S_ : Shape := ⟨0, ![]⟩
abbrev S1x1x128 : Shape := ⟨3, ![1, 1, 128]⟩

abbrev nBuf : Space → Nat
  | .hbm => 203
  | .vmem => 0
  | .smem => 0
  | _ => 0

abbrev hbmTy0_0 (i : Nat) : BufTy := match i % 128 with
  | 0 => ⟨S2x4096x128, .f32⟩
  | 1 => ⟨S2x4096x4096, .f32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S4096x4096, .i32⟩
  | 15 => ⟨S4096x4096, .i32⟩
  | 16 => ⟨S_, .i32⟩
  | 17 => ⟨S4096x4096, .i32⟩
  | 18 => ⟨S4096x4096, .i32⟩
  | 19 => ⟨S4096x4096, .i1⟩
  | 20 => ⟨S_, .f32⟩
  | 21 => ⟨S_, .f32⟩
  | 22 => ⟨S2x4096x4096, .i1⟩
  | 23 => ⟨S2x4096x4096, .f32⟩
  | 24 => ⟨S2x4096x4096, .f32⟩
  | 25 => ⟨S2x4096x128, .f32⟩
  | 26 => ⟨S2x4096x128, .f32⟩
  | 27 => ⟨S1x1x128, .f32⟩
  | 28 => ⟨S2x4096x128, .f32⟩
  | 29 => ⟨S2x4096x128, .f32⟩
  | 30 => ⟨S_, .f32⟩
  | 31 => ⟨S2x4096x128, .f32⟩
  | 32 => ⟨S2x4096x128, .f32⟩
  | 33 => ⟨S_, .f32⟩
  | 34 => ⟨S128, .f32⟩
  | 35 => ⟨S1x1x128, .f32⟩
  | 36 => ⟨S_, .f32⟩
  | 37 => ⟨S1x1x128, .f32⟩
  | 38 => ⟨S1x1x128, .f32⟩
  | 39 => ⟨S_, .i32⟩
  | 40 => ⟨S_, .f32⟩
  | 41 => ⟨S128, .f32⟩
  | 42 => ⟨S1x1x128, .f32⟩
  | 43 => ⟨S_, .f32⟩
  | 44 => ⟨S1x1x128, .f32⟩
  | 45 => ⟨S1x1x128, .f32⟩
  | 46 => ⟨S2x4096x128, .f32⟩
  | 47 => ⟨S2x4096x128, .f32⟩
  | 48 => ⟨S2x4096x128, .f32⟩
  | 49 => ⟨S_, .f32⟩
  | 50 => ⟨S_, .f32⟩
  | 51 => ⟨S_, .f32⟩
  | 52 => ⟨S_, .f32⟩
  | 53 => ⟨S128, .f32⟩
  | 54 => ⟨S1x1x128, .f32⟩
  | 55 => ⟨S1x1x128, .f32⟩
  | 56 => ⟨S1x1x128, .f32⟩
  | 57 => ⟨S_, .f32⟩
  | 58 => ⟨S_, .i1⟩
  | 59 => ⟨S_, .f32⟩
  | 60 => ⟨S_, .f32⟩
  | 61 => ⟨S1x1x128, .f32⟩
  | 62 => ⟨S1x1x128, .f32⟩
  | 63 => ⟨S2x4096x128, .f32⟩
  | 64 => ⟨S2x4096x128, .f32⟩
  | 65 => ⟨S1x1x128, .f32⟩
  | 66 => ⟨S2x4096x128, .f32⟩
  | 67 => ⟨S2x4096x128, .f32⟩
  | 68 => ⟨S_, .f32⟩
  | 69 => ⟨S1x1x128, .f32⟩
  | 70 => ⟨S1x1x128, .f32⟩
  | 71 => ⟨S1x1x128, .f32⟩
  | 72 => ⟨S2x4096x128, .f32⟩
  | 73 => ⟨S2x4096x128, .f32⟩
  | 74 => ⟨S1x1x128, .f32⟩
  | 75 => ⟨S2x4096x128, .f32⟩
  | 76 => ⟨S2x4096x128, .f32⟩
  | 77 => ⟨S4096x4096, .i32⟩
  | 78 => ⟨S4096x4096, .i32⟩
  | 79 => ⟨S_, .i32⟩
  | 80 => ⟨S4096x4096, .i32⟩
  | 81 => ⟨S4096x4096, .i32⟩
  | 82 => ⟨S4096x4096, .i1⟩
  | 83 => ⟨S_, .f32⟩
  | 84 => ⟨S_, .f32⟩
  | 85 => ⟨S2x4096x4096, .i1⟩
  | 86 => ⟨S2x4096x4096, .f32⟩
  | 87 => ⟨S2x4096x4096, .f32⟩
  | 88 => ⟨S2x4096x128, .f32⟩
  | 89 => ⟨S2x4096x128, .f32⟩
  | 90 => ⟨S1x1x128, .f32⟩
  | 91 => ⟨S2x4096x128, .f32⟩
  | 92 => ⟨S2x4096x128, .f32⟩
  | 93 => ⟨S_, .f32⟩
  | 94 => ⟨S2x4096x128, .f32⟩
  | 95 => ⟨S2x4096x128, .f32⟩
  | 96 => ⟨S_, .f32⟩
  | 97 => ⟨S128, .f32⟩
  | 98 => ⟨S1x1x128, .f32⟩
  | 99 => ⟨S_, .f32⟩
  | 100 => ⟨S1x1x128, .f32⟩
  | 101 => ⟨S1x1x128, .f32⟩
  | 102 => ⟨S_, .i32⟩
  | 103 => ⟨S_, .f32⟩
  | 104 => ⟨S128, .f32⟩
  | 105 => ⟨S1x1x128, .f32⟩
  | 106 => ⟨S_, .f32⟩
  | 107 => ⟨S1x1x128, .f32⟩
  | 108 => ⟨S1x1x128, .f32⟩
  | 109 => ⟨S2x4096x128, .f32⟩
  | 110 => ⟨S2x4096x128, .f32⟩
  | 111 => ⟨S2x4096x128, .f32⟩
  | 112 => ⟨S_, .f32⟩
  | 113 => ⟨S_, .f32⟩
  | 114 => ⟨S_, .f32⟩
  | 115 => ⟨S_, .f32⟩
  | 116 => ⟨S128, .f32⟩
  | 117 => ⟨S1x1x128, .f32⟩
  | 118 => ⟨S1x1x128, .f32⟩
  | 119 => ⟨S1x1x128, .f32⟩
  | 120 => ⟨S_, .f32⟩
  | 121 => ⟨S_, .i1⟩
  | 122 => ⟨S_, .f32⟩
  | 123 => ⟨S_, .f32⟩
  | 124 => ⟨S1x1x128, .f32⟩
  | 125 => ⟨S1x1x128, .f32⟩
  | 126 => ⟨S2x4096x128, .f32⟩
  | 127 => ⟨S2x4096x128, .f32⟩
  | _ => ⟨S2x4096x128, .f32⟩

abbrev hbmTy0_1 (i : Nat) : BufTy := match i % 128 with
  | 0 => ⟨S1x1x128, .f32⟩
  | 1 => ⟨S2x4096x128, .f32⟩
  | 2 => ⟨S2x4096x128, .f32⟩
  | 3 => ⟨S_, .f32⟩
  | 4 => ⟨S1x1x128, .f32⟩
  | 5 => ⟨S1x1x128, .f32⟩
  | 6 => ⟨S1x1x128, .f32⟩
  | 7 => ⟨S2x4096x128, .f32⟩
  | 8 => ⟨S2x4096x128, .f32⟩
  | 9 => ⟨S1x1x128, .f32⟩
  | 10 => ⟨S2x4096x128, .f32⟩
  | 11 => ⟨S2x4096x128, .f32⟩
  | 12 => ⟨S4096x4096, .i32⟩
  | 13 => ⟨S4096x4096, .i32⟩
  | 14 => ⟨S_, .i32⟩
  | 15 => ⟨S4096x4096, .i32⟩
  | 16 => ⟨S4096x4096, .i32⟩
  | 17 => ⟨S4096x4096, .i1⟩
  | 18 => ⟨S_, .f32⟩
  | 19 => ⟨S_, .f32⟩
  | 20 => ⟨S2x4096x4096, .i1⟩
  | 21 => ⟨S2x4096x4096, .f32⟩
  | 22 => ⟨S2x4096x4096, .f32⟩
  | 23 => ⟨S2x4096x128, .f32⟩
  | 24 => ⟨S2x4096x128, .f32⟩
  | 25 => ⟨S1x1x128, .f32⟩
  | 26 => ⟨S2x4096x128, .f32⟩
  | 27 => ⟨S2x4096x128, .f32⟩
  | 28 => ⟨S_, .f32⟩
  | 29 => ⟨S2x4096x128, .f32⟩
  | 30 => ⟨S2x4096x128, .f32⟩
  | 31 => ⟨S_, .f32⟩
  | 32 => ⟨S128, .f32⟩
  | 33 => ⟨S1x1x128, .f32⟩
  | 34 => ⟨S_, .f32⟩
  | 35 => ⟨S1x1x128, .f32⟩
  | 36 => ⟨S1x1x128, .f32⟩
  | 37 => ⟨S_, .i32⟩
  | 38 => ⟨S_, .f32⟩
  | 39 => ⟨S128, .f32⟩
  | 40 => ⟨S1x1x128, .f32⟩
  | 41 => ⟨S_, .f32⟩
  | 42 => ⟨S1x1x128, .f32⟩
  | 43 => ⟨S1x1x128, .f32⟩
  | 44 => ⟨S2x4096x128, .f32⟩
  | 45 => ⟨S2x4096x128, .f32⟩
  | 46 => ⟨S2x4096x128, .f32⟩
  | 47 => ⟨S_, .f32⟩
  | 48 => ⟨S_, .f32⟩
  | 49 => ⟨S_, .f32⟩
  | 50 => ⟨S_, .f32⟩
  | 51 => ⟨S128, .f32⟩
  | 52 => ⟨S1x1x128, .f32⟩
  | 53 => ⟨S1x1x128, .f32⟩
  | 54 => ⟨S1x1x128, .f32⟩
  | 55 => ⟨S_, .f32⟩
  | 56 => ⟨S_, .i1⟩
  | 57 => ⟨S_, .f32⟩
  | 58 => ⟨S_, .f32⟩
  | 59 => ⟨S1x1x128, .f32⟩
  | 60 => ⟨S1x1x128, .f32⟩
  | 61 => ⟨S2x4096x128, .f32⟩
  | 62 => ⟨S2x4096x128, .f32⟩
  | 63 => ⟨S1x1x128, .f32⟩
  | 64 => ⟨S2x4096x128, .f32⟩
  | 65 => ⟨S2x4096x128, .f32⟩
  | 66 => ⟨S_, .f32⟩
  | 67 => ⟨S1x1x128, .f32⟩
  | 68 => ⟨S1x1x128, .f32⟩
  | 69 => ⟨S1x1x128, .f32⟩
  | 70 => ⟨S2x4096x128, .f32⟩
  | 71 => ⟨S2x4096x128, .f32⟩
  | 72 => ⟨S1x1x128, .f32⟩
  | 73 => ⟨S2x4096x128, .f32⟩
  | 74 => ⟨S2x4096x128, .f32⟩
  | _ => ⟨S2x4096x128, .f32⟩

abbrev hbmTy (i : Nat) : BufTy := match i / 128 with
  | 0 => hbmTy0_0 i
  | 1 => hbmTy0_1 i
  | _ => ⟨S2x4096x128, .f32⟩

abbrev bufTy : (tb : Table) → Fin (tcTables nBuf tb) → BufTy
  | .hbm, ⟨i, _⟩ => hbmTy i
  | _, _ => ⟨S2x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_cst : Ref sig .tc := ⟨.hbm, 30, rfl⟩
abbrev main_call1_v0 : Ref sig .tc := ⟨.hbm, 31, rfl⟩
abbrev main_v11 : Ref sig .tc := ⟨.hbm, 32, rfl⟩
abbrev main_cst_0 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_call2_cst : Ref sig .tc := ⟨.hbm, 40, rfl⟩
abbrev main_call2_v0 : Ref sig .tc := ⟨.hbm, 41, rfl⟩
abbrev main_call2_v1 : Ref sig .tc := ⟨.hbm, 42, rfl⟩
abbrev main_call2_cst_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_cst_1 : Ref sig .tc := ⟨.hbm, 50, rfl⟩
abbrev main_call2_v8 : Ref sig .tc := ⟨.hbm, 51, rfl⟩
abbrev main_call2_cst_2 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_v12 : Ref sig .tc := ⟨.hbm, 56, rfl⟩
abbrev main_call2_cst_3 : Ref sig .tc := ⟨.hbm, 57, rfl⟩
abbrev main_call2_v13 : Ref sig .tc := ⟨.hbm, 58, rfl⟩
abbrev main_call2_cst_4 : Ref sig .tc := ⟨.hbm, 59, rfl⟩
abbrev main_call2_call0_v0 : Ref sig .tc := ⟨.hbm, 60, rfl⟩
abbrev main_call2_call0_v1 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_cst_3 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_c_4 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst_5 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_call4_cst : Ref sig .tc := ⟨.hbm, 93, rfl⟩
abbrev main_call4_v0 : Ref sig .tc := ⟨.hbm, 94, rfl⟩
abbrev main_v41 : Ref sig .tc := ⟨.hbm, 95, rfl⟩
abbrev main_cst_6 : Ref sig .tc := ⟨.hbm, 96, rfl⟩
abbrev main_v42 : Ref sig .tc := ⟨.hbm, 97, rfl⟩
abbrev main_v43 : Ref sig .tc := ⟨.hbm, 98, rfl⟩
abbrev main_cst_7 : Ref sig .tc := ⟨.hbm, 99, rfl⟩
abbrev main_v44 : Ref sig .tc := ⟨.hbm, 100, rfl⟩
abbrev main_v45 : Ref sig .tc := ⟨.hbm, 101, rfl⟩
abbrev main_c_8 : Ref sig .tc := ⟨.hbm, 102, rfl⟩
abbrev main_call5_cst : Ref sig .tc := ⟨.hbm, 103, rfl⟩
abbrev main_call5_v0 : Ref sig .tc := ⟨.hbm, 104, rfl⟩
abbrev main_call5_v1 : Ref sig .tc := ⟨.hbm, 105, rfl⟩
abbrev main_call5_cst_0 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_v5 : Ref sig .tc := ⟨.hbm, 110, rfl⟩
abbrev main_call5_v6 : Ref sig .tc := ⟨.hbm, 111, rfl⟩
abbrev main_call5_v7 : Ref sig .tc := ⟨.hbm, 112, rfl⟩
abbrev main_call5_cst_1 : Ref sig .tc := ⟨.hbm, 113, rfl⟩
abbrev main_call5_v8 : Ref sig .tc := ⟨.hbm, 114, rfl⟩
abbrev main_call5_cst_2 : Ref sig .tc := ⟨.hbm, 115, rfl⟩
abbrev main_call5_v9 : Ref sig .tc := ⟨.hbm, 116, rfl⟩
abbrev main_call5_v10 : Ref sig .tc := ⟨.hbm, 117, rfl⟩
abbrev main_call5_v11 : Ref sig .tc := ⟨.hbm, 118, rfl⟩
abbrev main_call5_v12 : Ref sig .tc := ⟨.hbm, 119, rfl⟩
abbrev main_call5_cst_3 : Ref sig .tc := ⟨.hbm, 120, rfl⟩
abbrev main_call5_v13 : Ref sig .tc := ⟨.hbm, 121, rfl⟩
abbrev main_call5_cst_4 : Ref sig .tc := ⟨.hbm, 122, rfl⟩
abbrev main_call5_call0_v0 : Ref sig .tc := ⟨.hbm, 123, rfl⟩
abbrev main_call5_call0_v1 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_cst_9 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_c_10 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_cst_11 : Ref sig .tc := ⟨.hbm, 146, rfl⟩
abbrev main_call6_v0 : Ref sig .tc := ⟨.hbm, 147, rfl⟩
abbrev main_call6_v1 : Ref sig .tc := ⟨.hbm, 148, rfl⟩
abbrev main_call6_v2 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_call7_cst : Ref sig .tc := ⟨.hbm, 156, rfl⟩
abbrev main_call7_v0 : Ref sig .tc := ⟨.hbm, 157, rfl⟩
abbrev main_v71 : Ref sig .tc := ⟨.hbm, 158, rfl⟩
abbrev main_cst_12 : Ref sig .tc := ⟨.hbm, 159, rfl⟩
abbrev main_v72 : Ref sig .tc := ⟨.hbm, 160, rfl⟩
abbrev main_v73 : Ref sig .tc := ⟨.hbm, 161, rfl⟩
abbrev main_cst_13 : Ref sig .tc := ⟨.hbm, 162, rfl⟩
abbrev main_v74 : Ref sig .tc := ⟨.hbm, 163, rfl⟩
abbrev main_v75 : Ref sig .tc := ⟨.hbm, 164, rfl⟩
abbrev main_c_14 : Ref sig .tc := ⟨.hbm, 165, rfl⟩
abbrev main_call8_cst : Ref sig .tc := ⟨.hbm, 166, rfl⟩
abbrev main_call8_v0 : Ref sig .tc := ⟨.hbm, 167, rfl⟩
abbrev main_call8_v1 : Ref sig .tc := ⟨.hbm, 168, rfl⟩
abbrev main_call8_cst_0 : Ref sig .tc := ⟨.hbm, 169, rfl⟩
abbrev main_call8_v2 : Ref sig .tc := ⟨.hbm, 170, rfl⟩
abbrev main_call8_v3 : Ref sig .tc := ⟨.hbm, 171, rfl⟩
abbrev main_call8_v4 : Ref sig .tc := ⟨.hbm, 172, rfl⟩
abbrev main_call8_v5 : Ref sig .tc := ⟨.hbm, 173, rfl⟩
abbrev main_call8_v6 : Ref sig .tc := ⟨.hbm, 174, rfl⟩
abbrev main_call8_v7 : Ref sig .tc := ⟨.hbm, 175, rfl⟩
abbrev main_call8_cst_1 : Ref sig .tc := ⟨.hbm, 176, rfl⟩
abbrev main_call8_v8 : Ref sig .tc := ⟨.hbm, 177, rfl⟩
abbrev main_call8_cst_2 : Ref sig .tc := ⟨.hbm, 178, rfl⟩
abbrev main_call8_v9 : Ref sig .tc := ⟨.hbm, 179, rfl⟩
abbrev main_call8_v10 : Ref sig .tc := ⟨.hbm, 180, rfl⟩
abbrev main_call8_v11 : Ref sig .tc := ⟨.hbm, 181, rfl⟩
abbrev main_call8_v12 : Ref sig .tc := ⟨.hbm, 182, rfl⟩
abbrev main_call8_cst_3 : Ref sig .tc := ⟨.hbm, 183, rfl⟩
abbrev main_call8_v13 : Ref sig .tc := ⟨.hbm, 184, rfl⟩
abbrev main_call8_cst_4 : Ref sig .tc := ⟨.hbm, 185, rfl⟩
abbrev main_call8_call0_v0 : Ref sig .tc := ⟨.hbm, 186, rfl⟩
abbrev main_call8_call0_v1 : Ref sig .tc := ⟨.hbm, 187, rfl⟩
abbrev main_v76 : Ref sig .tc := ⟨.hbm, 188, rfl⟩
abbrev main_v77 : Ref sig .tc := ⟨.hbm, 189, rfl⟩
abbrev main_v78 : Ref sig .tc := ⟨.hbm, 190, rfl⟩
abbrev main_v79 : Ref sig .tc := ⟨.hbm, 191, rfl⟩
abbrev main_v80 : Ref sig .tc := ⟨.hbm, 192, rfl⟩
abbrev main_v81 : Ref sig .tc := ⟨.hbm, 193, rfl⟩
abbrev main_cst_15 : Ref sig .tc := ⟨.hbm, 194, rfl⟩
abbrev main_v82 : Ref sig .tc := ⟨.hbm, 195, rfl⟩
abbrev main_v83 : Ref sig .tc := ⟨.hbm, 196, rfl⟩
abbrev main_v84 : Ref sig .tc := ⟨.hbm, 197, rfl⟩
abbrev main_v85 : Ref sig .tc := ⟨.hbm, 198, rfl⟩
abbrev main_v86 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩

abbrev nD : Nat := 1
abbrev τ : Topo := Topo.v7x

variable {F : FTy → Type} [FloatOps F]
-- ==== Proof.Lib.Region.lean ====
/- A kernel region of a program of several, from proof data that name what every window leaves but of some windows only say it from a
   point on: the region is entered from every unscoped buffer at a valuation and left with them at another. -/
module

public import Idealize.ShloMosaic.Lib.Pipeline.Frame
public import Idealize.ShloMosaic.Lib.Pipeline.Regions
public import Idealize.ShloMosaic.Lib.Pipeline.RegionsLoop
public import Idealize.ShloMosaic.Lib.Pipeline.RegionArrays
public import Idealize.ShloMosaic.Lib.Pipeline.DatRel
public import Idealize.ShloMosaic.Lib.Pipeline.ArrRel

@[expose] public section

noncomputable section

namespace Cert.Region

open Idealize.ShloMosaic Idealize.ShloMosaic.TcCoe Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open Idealize.ShloMosaic.Rounds

variable {nD : Nat} {τ : Topo} {sig : RefSig} {Val : EltTy → Type} [∀ e, Nonempty (Val e)]
variable {Ix : Type} [DecidableEq Ix] {Name : Type} [DecidableEq Name] {U : Type} [URA U] {Lvl : Type} [Preorder Lvl]
variable {Λ₀ : Idealize.SL.Sem.Labels} {P : Type} [Fintype P]

local notation "𝕄" => MT nD τ sig Ix Val Name U Lvl

omit [Preorder Lvl] [Fintype P] in
/-- If what is said of a marked window at every point that writes it back is that it holds what the exact data name, then the arrays at
    the end are the exact data's. -/
theorem arrAt_of_rel {cfg : Cfg sig Λ₀} {c : Dev nD} (dat : Dat τ Val Ix Name U Lvl cfg c) (fg : Fin cfg.W → Bool)
    (Rl : (w : Fin cfg.W) → Fin cfg.N → ((cfg.win w).block.Idx → Val (cfg.win w).elt) → Prop)
    (h : ∀ w, fg w = true → ∀ u, (cfg.win w).flush u = true → ∀ X, Rl w u X → X = dat.after w u) (w : Fin cfg.W) (n : ℕ)
    (G : Buf Val ((cfg.win w).arr.view.loc (c.tc : Thread nD τ))) (hG : (dat.toRRel fg Rl).ArrAt w n G) : G = dat.arrAt w n := by
  by_cases hw : fg w = true
  · obtain ⟨X, hX, hA⟩ := hG.exists_exact
    refine (hA dat.after fun u hu hf => ?_).trans ?_
    · exact (h w hw u hf (X u) (dat.toRRel_leaves hw (hX u hu hf))).symm
    · rfl
  · exact (dat.toR_arrAt_iff w n G).mp (((dat.toR.override_arrAt (by simp only [hw]) n G).mp hG))

omit [Preorder Lvl] [Fintype P] in
/-- So the arrays at some contents that they may hold at the end are the arrays at what the exact data name. -/
theorem arraysAt_rel {cfg : Cfg sig Λ₀} {c : Dev nD} (dat : Dat τ Val Ix Name U Lvl cfg c) (fg : Fin cfg.W → Bool)
    (Rl : (w : Fin cfg.W) → Fin cfg.N → ((cfg.win w).block.Idx → Val (cfg.win w).elt) → Prop)
    (h : ∀ w, fg w = true → ∀ u, (cfg.win w).flush u = true → ∀ X, Rl w u X → X = dat.after w u) (n : ℕ) :
    ((dat.toRRel fg Rl).arraysAt n : sProp 𝕄) ⊢ dat.arrays (dat.arrAt · n) := by
  unfold RDat.arraysAt Dat.arrays
  refine BI.bigSep_mono fun w _ => show (iprop(∃ G, ⌜(dat.toRRel fg Rl).ArrAt w n G⌝
      ∗ (cfg.win w).arr.view.loc (c.tc : Thread nD τ) ↦[(cfg.win w).arr.view.set]{dat.share w} G) : sProp 𝕄)
    ⊢ iprop((cfg.win w).arr.view.loc (c.tc : Thread nD τ) ↦[(cfg.win w).arr.view.set]{dat.share w} dat.arrAt w n) from ?_
  iintro ⟨%G, %hG, H⟩
  rw [arrAt_of_rel dat fg Rl h w n G hG]
  iexact H

section Seg

variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)
  (fg : (q : P) → Fin (pin pcs a q).W → Bool)
  (Rl : (q : P) → (c : Dev nD) → (w : Fin (pin pcs a q).W) → Fin (pin pcs a q).N → (((pin pcs a q).win w).block.Idx → Val ((pin pcs a q).win w).elt) → Prop)

/-- The family of proof data, each pipeline's marked windows held to its relation. -/
abbrev rels : (q : P) → (c : Dev nD) → RDat τ Val Ix Name U Lvl (pin pcs a q) c := fun q c => (pdats q c).toRRel (fg q) (Rl q c)

/-- What rides along outside the unscoped buffers: the generator register at some state and an `owes` of nothing. -/
def rest (c : Dev nD) : sProp 𝕄 := iprop((∃ r, prngReg c r) ∗ ∃ W, owes (c : Thread nD τ) (0 : CellTallies nD τ sig Ix) W)

/-- A region entered from every unscoped buffer at `W` and left with them at `W'`, which is the proof data's arrays at the region's
    arrays and `W` elsewhere. -/
def seg (p : P) (kit : PLaunchFacts (nD := nD) (τ := τ) pcs p) (hK : (pcs p).pre.K = 0)
    (hbody : ∀ c, BodyObligationRel (pdats p c) defs₀ 𝒱₀ ι Set.univ (fg p) (Rl p c))
    (howed : ∀ c t, (pdats p c).owed t = 0) (hrec : ∀ c, (pdats p c).recorded 0 = Set.univ) (hshare : ∀ c w, (pdats p c).share w = fullShare)
    (hex : ∀ c w, fg p w = true → ∀ u, ((pin pcs a p).win w).flush u = true → ∀ X, Rl p c w u X → X = (pdats p c).after w u)
    (W W' : Dev nD → Valuation τ sig Val)
    (hW : ∀ c w, (pdats p c).A w = W c (Proc.devRef .tc (arrRef (pin pcs a p).spec w)))
    (hW' : ∀ c w, (pdats p c).arrAt w (pin pcs a p).N = W' c (Proc.devRef .tc (arrRef (pin pcs a p).spec w)))
    (hrest : ∀ c (b : Ref sig .tc), b ∉ Finset.univ.image (arrRef (pin pcs a p).spec) → W' c (Proc.devRef .tc b) = W c (Proc.devRef .tc b))
    (hin : ∀ c : Dev nD, iprop(scopedRest (pin pcs a p).spec c ∗ ∃ r, prngReg c r) ⊢ (pdats p c).Φ 0)
    (hout : ∀ c : Dev nD, (pdats p c).Φ (Fin.last (pin pcs a p).N) ⊢ iprop(scopedRest (pin pcs a p).spec c ∗ ∃ r, prngReg c r)) :
    RDat.RegionSeg pcs a (rels pcs a pdats fg Rl) ι defs₀ 𝒱₀ L lv p where
  win := kit.to₀.win
  block_pos := kit.to₀.block_pos
  stage_whole := kit.to₀.stage_whole
  K := PEmpty
  osem k := k.elim
  ho := OwnSemFacts.none _
  hbody c := (hbody c).toRRel
  hwaits := RDat.hwaits_of_owed_zero pcs a (rels pcs a pdats fg Rl) ι L lv p howed
  pre c := iprop(StableHlo.held (c.tc : Thread nD τ) (ucRefs τ sig) (W c) ∗ rest c)
  post c := iprop(StableHlo.held (c.tc : Thread nD τ) (ucRefs τ sig) (W' c) ∗ rest c)
  X c := iprop(∃ r, prngReg c r)
  Y c := iprop(∃ r, prngReg c r)
  Z c := unscopedRest (Ix := Ix) (Name := Name) (U := U) (Lvl := Lvl) (pin pcs a p).spec c (fun b => W c (Proc.devRef .tc b))
  hentry c := by
    show _ ⊢ |={Set.univ}=> iprop((pdats p c).arrays ((pdats p c).arrAt · 0) ∗ prefHeld (pcs p).pre c (fun _ => fullShare) (a p).1
        ∗ (pdats p c).owesAt ι 0 ∗ _ ∗ _)
    rw [ownSems0_none, prefHeld_of_none _ hK, ← unscopedBufs_held]
    have hsplit := arrays_of_unscopedBufs pcs a pdats kit.win kit.arr_whole c (hshare c) (fun b => W c (Proc.devRef .tc b)) (hW c)
    unfold rest
    iintro ⟨⟨Hub, Hp, HO⟩, -, -⟩
    ihave H := hsplit $$ Hub
    icases H with ⟨Ha, Hrest⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitl [Hp] <;> iassumption
  hin c := (show _ ⊢ iprop(scopedRest (pin pcs a p).spec c ∗ ∃ r, prngReg c r) from by
    iintro ⟨Hp, -, Hr⟩
    isplitl [Hr] <;> iassumption).trans (hin c)
  hout c := (hout c).trans (by
    rw [ownSems0_none]
    iintro ⟨Hr, Hp⟩
    isplitl [Hp]; · iexact Hp
    isplitr; · iempintro
    iexact Hr)
  hexit c := by
    have hjoin := unscopedBufs_of_arrays pcs a (p := p) kit.win kit.arr_whole c pdats (hshare c)
      (fun b => W c (Proc.devRef .tc b)) (fun b => W' c (Proc.devRef .tc b)) ((pdats p c).arrAt · (pin pcs a p).N) (hW' c) (hrest c)
    rw [← unscopedBufs_held]
    unfold rest
    show iprop(((pdats p c).toRRel (fg p) (Rl p c)).arraysAt (pin pcs a p).N ∗ (pdats p c).owesAt ι (Fin.last (pin pcs a p).N) ∗ _ ∗ _) ⊢ _
    iintro ⟨Ha, HO, Hp, Hr⟩
    ihave Ha := (arraysAt_rel (pdats p c) (fg p) (Rl p c) (hex c) (pin pcs a p).N) $$ Ha
    imodintro
    isplitl [Ha Hr]
    · iapply hjoin; isplitl [Ha] <;> iassumption
    isplitl [Hp]; · iexact Hp
    unfold Dat.owesAt owesWithin Dat.bound
    rw [howed c]
    icases HO with ⟨%Wd, -, HO⟩; iexists Wd; iexact HO

end Seg

end Cert.Region

end
-- ==== Proof.KernelIdeal.Vec.lean ====
/- Loads and stores of a kernel body as windows and puts of plain vectors. -/
module

public import proofs.«01_k».proof.Proof.Gen.KernelIdeal.Launch
public import Idealize.ShloMosaic.Lib.Pointwise.Index
public import Idealize.ShloMosaic.Lib.VecWindow

@[expose] public section

set_option maxRecDepth 16384

noncomputable section

namespace Cert.KernelIdeal.Own

open Cert.KernelIdeal Cert.KernelIdeal.Gen
open Idealize.ShloMosaic Idealize.ShloMosaic.TcCoe
open Idealize.ShloMosaic.VecWindow (put window)

variable {F : FTy → Type} [FloatOps F]

section Rules

variable {sig : RefSig} {κ : Kind} {sp : Space} {s : Shape} {e : EltTy}

/-- A load at a rectangle reads a window of what the view reads. -/
theorem load_window (v : View sig κ sp s e) (f : v.ty.Contents (Elt F)) (off size : Fin s.rank → ℕ) (inb : ∀ a, off a + size a ≤ s.size a) :
    v.readAt (Elt F) (Rect.unit off size inb).toLoadRect f = window (v.read (Elt F) f) off size inb := rfl

/-- A load that earlier stores cover reads a window of what these stores leave. -/
theorem cover_window (v : View sig κ sp s e) (L : List (View.Piece (Elt F) s e)) (off size : Fin s.rank → ℕ) (inb : ∀ a, off a + size a ≤ s.size a) :
    v.readCov L (Rect.unit off size inb).toLoadRect = window (v.read (Elt F) (v.writes (Elt F) v.junk L)) off size inb := rfl

/-- The last store of several is a put over what the others leave. -/
theorem store_put (v : View sig κ sp s e) (f : v.ty.Contents (Elt F)) (off size : Fin s.rank → ℕ) (inb : ∀ a, off a + size a ≤ s.size a)
    (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put v f inb w L rfl

/-- A window of the whole shape is the vector itself. -/
theorem window_all {α : Type} (x : s.Idx → α) (off : Fin s.rank → ℕ) (inb : ∀ a, off a + s.size a ≤ s.size a) : window x off s.size inb = x := by
  funext y
  exact congrArg x (funext fun a => Fin.ext (by
    show off a + 1 * (y a).val = (y a).val
    have := inb a; omega))

end Rules

/-- Two halves of 128 columns side by side. -/
def halves (p q : Vec F S4096x128 .bf16) : Vec F S4096x256 .bf16 := fun j =>
  if h : (j 1).val < 128 then p (ix2 (⟨(j 0).val, (j 0).isLt⟩ : Fin 4096) (⟨(j 1).val, h⟩ : Fin 128))
  else q (ix2 (⟨(j 0).val, (j 0).isLt⟩ : Fin 4096) (⟨(j 1).val - 128, by have : (j 1).val < 256 := (j 1).isLt; omega⟩ : Fin 128))

/-- Two halves put over a buffer of 256 columns leave nothing of what was there. -/
theorem put_put_halves (p q : Vec F S4096x128 .bf16) (x : Vec F S4096x256 .bf16) :
    put (s := S4096x256) (put (s := S4096x256) x ![0, 0] ![4096, 128] p) ![0, 128] ![4096, 128] q = halves p q := by
  funext j
  have h0 : (j 0).val < 4096 := (j 0).isLt
  have h1 : (j 1).val < 256 := (j 1).isLt
  unfold put halves
  by_cases h : (j 1).val < 128
  · have n : ¬ ∀ a : Fin 2, (![0, 128] : Fin 2 → ℕ) a ≤ (j a).val ∧ (j a).val < (![0, 128] : Fin 2 → ℕ) a + (![4096, 128] : Fin 2 → ℕ) a := fun k => by
      have := (k 1).1
      have : 128 ≤ (j 1).val := this
      omega
    have m : ∀ a : Fin 2, (![0, 0] : Fin 2 → ℕ) a ≤ (j a).val ∧ (j a).val < (![0, 0] : Fin 2 → ℕ) a + (![4096, 128] : Fin 2 → ℕ) a :=
      Fin.forall_fin_two.2 ⟨⟨Nat.zero_le _, by show _ < 0 + 4096; omega⟩, ⟨Nat.zero_le _, by show _ < 0 + 128; omega⟩⟩
    rw [dif_neg n, dif_pos m, dif_pos h]
    exact congrArg p (funext (Fin.forall_fin_two.2 ⟨rfl, rfl⟩))
  · have m : ∀ a : Fin 2, (![0, 128] : Fin 2 → ℕ) a ≤ (j a).val ∧ (j a).val < (![0, 128] : Fin 2 → ℕ) a + (![4096, 128] : Fin 2 → ℕ) a :=
      Fin.forall_fin_two.2 ⟨⟨Nat.zero_le _, by show _ < 0 + 4096; omega⟩, ⟨by show 128 ≤ _; omega, by show _ < 128 + 128; omega⟩⟩
    rw [dif_pos m, dif_neg h]
    exact congrArg q (funext (Fin.forall_fin_two.2 ⟨rfl, rfl⟩))

/-- A put of the whole of two rows leaves the payload. -/
theorem put_rows (x w : Vec F S2x128 .f32) : put (s := S2x128) x ![0, 0] ![2, 128] w = w := by
  funext j
  have h0 : (j 0).val < 2 := (j 0).isLt
  have h1 : (j 1).val < 128 := (j 1).isLt
  have m : ∀ a : Fin 2, (![0, 0] : Fin 2 → ℕ) a ≤ (j a).val ∧ (j a).val < (![0, 0] : Fin 2 → ℕ) a + (![2, 128] : Fin 2 → ℕ) a :=
    Fin.forall_fin_two.2 ⟨⟨Nat.zero_le _, by show _ < 0 + 2; omega⟩, ⟨Nat.zero_le _, by show _ < 0 + 128; omega⟩⟩
  unfold put
  rw [dif_pos m]
  exact congrArg w (funext (Fin.forall_fin_two.2 ⟨rfl, rfl⟩))

/-- Row `1` of two rows is untouched by a put of row `0`. -/
theorem window_row1_put_row0 (x : Vec F S2x128 .f32) (w : Vec F S1x128 .f32) (inb) :
    window (s := S2x128) (put (s := S2x128) x ![0, 0] ![1, 128] w) ![1, 0] ![1, 128] inb = window (s := S2x128) x ![1, 0] ![1, 128] inb :=
  VecWindow.window_put_of_disjoint (s := S2x128) x ![0, 0] ![1, 128] ![1, 0] ![1, 128] inb w 0 (Or.inr (by decide))

end Cert.KernelIdeal.Own

end
-- ==== Proof.KernelIdeal.Step0.lean ====
/- What one grid point of the first kernel computes, as plain functions of vectors: the inputs of the point, the state that the kernel
   carries from point to point (the projected features and the two running sums), the blocks and the state that the point leaves. -/
module

public import proofs.«01_k».proof.Proof.Gen.KernelIdeal.Launch
public import proofs.«01_k».proof.Proof.Gen.KernelIdeal.Skeleton
public import proofs.«01_k».proof.Proof.KernelIdeal.Vec

@[expose] public section

set_option maxRecDepth 16384

noncomputable section

namespace Cert.KernelIdeal.Own

open Cert.KernelIdeal Cert.KernelIdeal.Gen
open Idealize.ShloMosaic Idealize.ShloMosaic.TcCoe
open Idealize.ShloMosaic.VecWindow (put window)

variable {F : FTy → Type} [FloatOps F]

/-- A put of a whole row tile of the adjacency leaves the payload. -/
theorem put_tile (x w : Vec F S1x1024x4096 .bf16) : put (s := S1x1024x4096) x ![0, 0, 0] ![1, 1024, 4096] w = w := by
  funext j
  have h0 : (j 0).val < 1 := (j 0).isLt
  have h1 : (j 1).val < 1024 := (j 1).isLt
  have h2 : (j 2).val < 4096 := (j 2).isLt
  have m : ∀ a : Fin 3, (![0, 0, 0] : Fin 3 → ℕ) a ≤ (j a).val ∧ (j a).val < (![0, 0, 0] : Fin 3 → ℕ) a + (![1, 1024, 4096] : Fin 3 → ℕ) a := by
    exact fun a => match a with
      | ⟨0, _⟩ => ⟨Nat.zero_le _, by show (j 0).val < 0 + 1; omega⟩
      | ⟨1, _⟩ => ⟨Nat.zero_le _, by show (j 1).val < 0 + 1024; omega⟩
      | ⟨2, _⟩ => ⟨Nat.zero_le _, by show (j 2).val < 0 + 4096; omega⟩
  unfold put
  rw [dif_pos m]
  exact congrArg w (funext fun a => match a with | ⟨0, _⟩ => rfl | ⟨1, _⟩ => rfl | ⟨2, _⟩ => rfl)

/-- The four blocks that a point of the first kernel reads. -/
structure In0 (F : FTy → Type) where
  x : Vec F S1x4096x128 .f32
  adj : Vec F S1x1024x4096 .f32
  W : Vec F S128x128 .f32
  b : Vec F S1x128 .f32

/-- What the first kernel carries: the projected features of the batch and the two running sums. -/
structure St0 (F : FTy → Type) where
  h : Vec F S4096x128 .f32
  s : Vec F S1x128 .f32
  ss : Vec F S1x128 .f32

/-- The first `scf.if`: the very first point. -/
def cond01 (i : grid0.Coords) : Prop :=
  Scalar.cmpi .ne (Scalar.extui (Scalar.andi (Scalar.cmpi .eq (BitVec.ofNat 32 (i 0).val) 0#32)
    (Scalar.cmpi .eq (BitVec.ofNat 32 (i 1).val) 0#32)) : BitVec 32) 0#32 = 1#1

/-- The second `scf.if`: the first row tile of a batch. -/
def cond02 (i : grid0.Coords) : Prop :=
  Scalar.cmpi .ne (Scalar.extui (Scalar.cmpi .eq (BitVec.ofNat 32 (i 1).val) 0#32) : BitVec 32) 0#32 = 1#1

instance (i : grid0.Coords) : Decidable (cond01 i) := by unfold cond01; infer_instance
instance (i : grid0.Coords) : Decidable (cond02 i) := by unfold cond02; infer_instance

/-- The running sums after the zeroing at the very first point. -/
def sZ0 (i : grid0.Coords) (s : Vec F S1x128 .f32) : Vec F S1x128 .f32 := if cond01 i then k0_pay7 else s
def ssZ0 (i : grid0.Coords) (s : Vec F S1x128 .f32) : Vec F S1x128 .f32 := if cond01 i then k0_pay8 else s

/-- The projected features, recomputed at the first row tile of a batch. -/
def hN0 (i : grid0.Coords) (X : In0 F) (S : St0 F) : Vec F S4096x128 .f32 := if cond02 i then k0_pay9 X.x X.W else S.h

/-- The diagonal block of the adjacency's row tile. -/
def diag0 (i : grid0.Coords) (X : In0 F) : Vec F S1x1024x1024 .f32 := window X.adj (k0_off1 i) S1x1024x1024.size (k0_off1_inb i)

/-- The aggregated features of the point's row tile. -/
def agg0 (i : grid0.Coords) (X : In0 F) (S : St0 F) : FVec F S1024x128 .f32 :=
  k0_pay13 X.adj (hN0 i X S) (diag0 i X) (window (hN0 i X S) (k0_off2 i) S1024x128.size (k0_off2_inb i))

/-- The row tile of activations that the point stores. -/
def yN0 (i : grid0.Coords) (X : In0 F) (S : St0 F) : Vec F S1x1024x128 .f32 := k0_pay4 (agg0 i X S) X.b

/-- The row tile of the adjacency with ones on the diagonal that the point stores. -/
def adjN0 (i : grid0.Coords) (X : In0 F) : Vec F S1x1024x4096 .bf16 :=
  put (k0_pay1 (k0_pay14 X.adj)) (k0_off1 i) S1x1024x1024.size (k0_pay2 (k0_pay11 (diag0 i X)) k0_pay12)

/-- The state that the point leaves. -/
def stepN0 (i : grid0.Coords) (X : In0 F) (S : St0 F) : St0 F where
  h := hN0 i X S
  s := k0_pay5 (agg0 i X S) X.b (sZ0 i S.s)
  ss := k0_pay6 (agg0 i X S) X.b (ssZ0 i S.ss)

/-- The three ways in which the kernel's conditions come out. -/
def Cases0 (i : grid0.Coords) : Prop := (cond01 i ∧ cond02 i) ∨ (¬ cond01 i ∧ cond02 i) ∨ (¬ cond01 i ∧ ¬ cond02 i)

instance (i : grid0.Coords) : Decidable (Cases0 i) := by unfold Cases0; infer_instance

/-- At every point of the grid the conditions come out in one of the three ways. -/
theorem cases0 : ∀ t : Fin grid0.N, Cases0 (grid0.coords t) := by decide +kernel

end Cert.KernelIdeal.Own

end
-- ==== Proof.KernelIdeal.Body0.lean ====
/- The body of the first kernel at one grid point: from the point's inputs and the carried state it runs to its end and leaves the blocks
   and the state that Step0 computes. -/
module

public import proofs.«01_k».proof.Proof.KernelIdeal.Step0
public import Idealize.ShloMosaic.Lib.Pipeline.Frame
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.VecWindow (put window)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The body at a point whose conditions come out in one of the three ways, from the inputs `X`, anything in the two row tiles' buffers, and the
    carried state `S`. -/
theorem body0_run (c : Dev nD) (i : grid0.Coords) (arg2 : Memref sig .tc .vmem S1x4096x128 .f32) (harg2 : arg2.IsWhole) (arg3 : Memref sig .tc .vmem S1x1024x4096 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024x4096 .bf16) (harg9 : arg9.IsWhole) (arg10 : Memref sig .tc .vmem S4096x128 .f32) (harg10 : arg10.IsWhole)
    (hc : Cases0 i) (X : In0 F) (y : Vec F S1x1024x128 .f32) (a : Vec F S1x1024x4096 .bf16) (S : St0 F) (E : Set ℕ) (K : PUnit → sProp 𝕄) :
    iprop(owns (c : Thread nD τ) arg2 fullShare X.x ∗ owns (c : Thread nD τ) arg3 fullShare X.adj ∗ owns (c : Thread nD τ) arg4 fullShare X.W ∗ owns (c : Thread nD τ) arg5 fullShare X.b ∗ owns (c : Thread nD τ) arg6 fullShare y ∗ owns (c : Thread nD τ) arg7 fullShare S.s ∗ owns (c : Thread nD τ) arg8 fullShare S.ss ∗ owns (c : Thread nD τ) arg9 fullShare a ∗ owns (c : Thread nD τ) arg10 fullShare S.h
        ∗ (iprop(owns (c : Thread nD τ) arg2 fullShare X.x ∗ owns (c : Thread nD τ) arg3 fullShare X.adj ∗ owns (c : Thread nD τ) arg4 fullShare X.W ∗ owns (c : Thread nD τ) arg5 fullShare X.b ∗ owns (c : Thread nD τ) arg6 fullShare (yN0 i X S) ∗ owns (c : Thread nD τ) arg7 fullShare (stepN0 i X S).s ∗ owns (c : Thread nD τ) arg8 fullShare (stepN0 i X S).ss ∗ owns (c : Thread nD τ) arg9 fullShare (adjN0 i X) ∗ owns (c : Thread nD τ) arg10 fullShare (stepN0 i X S).h) -∗ K ⟨⟩))
      ⊢ wp frame (wpE (defs₀ (F := F)) Variants.none c none) E (cc0__layer1_body i arg2 harg2 arg3 harg3 arg4 harg4 arg5 harg5 arg6 harg6 arg7 harg7 arg8 harg8 arg9 harg9 arg10 harg10) K := by
  simp only [cc0__layer1_body_eq_skeleton]; unfold cc0__layer1_body_skel
  simp only [k0_part1_eq_skeleton]; unfold k0_part1_skel
  unfold Cases0 at hc
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  rcases hc with ⟨h1, h2⟩ | ⟨h1, h2⟩ | ⟨h1, h2⟩
  all_goals
    have g1 := h1; have g2 := h2
    unfold cond01 at g1; unfold cond02 at g2
    sl_exec (disch := first | sl_exact g1 | sl_exact g2 | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; swap; (· iexact H6); ipureintro
      (sl_unfold_run_names; dsimp only
       try simp only [load_window, cover_window]
       repeat rw [View.read_writes_full]
       try simp only [store_put, View.writes_nil, harg2.read_unread, harg3.read_unread, harg4.read_unread, harg5.read_unread, harg6.read_unread, harg7.read_unread, harg8.read_unread, harg9.read_unread, harg10.read_unread]
       repeat rw [View.read_writes_full]
       repeat rw [window_all]
       repeat rw [put_tile]
       simp only [yN0, stepN0, adjN0, agg0, diag0, hN0, sZ0, ssZ0, h1, h2, if_true, if_false, not_true, not_false_iff]
       first | done | rfl)
    isplitl [H7]
    · iexists _; isplitr; swap; (· iexact H7); ipureintro
      (sl_unfold_run_names; dsimp only
       try simp only [load_window, cover_window]
       repeat rw [View.read_writes_full]
       try simp only [store_put, View.writes_nil, harg2.read_unread, harg3.read_unread, harg4.read_unread, harg5.read_unread, harg6.read_unread, harg7.read_unread, harg8.read_unread, harg9.read_unread, harg10.read_unread]
       repeat rw [View.read_writes_full]
       repeat rw [window_all]
       repeat rw [put_tile]
       simp only [yN0, stepN0, adjN0, agg0, diag0, hN0, sZ0, ssZ0, h1, h2, if_true, if_false, not_true, not_false_iff]
       first | done | rfl)
    isplitl [H8]
    · iexists _; isplitr; swap; (· iexact H8); ipureintro
      (sl_unfold_run_names; dsimp only
       try simp only [load_window, cover_window]
       repeat rw [View.read_writes_full]
       try simp only [store_put, View.writes_nil, harg2.read_unread, harg3.read_unread, harg4.read_unread, harg5.read_unread, harg6.read_unread, harg7.read_unread, harg8.read_unread, harg9.read_unread, harg10.read_unread]
       repeat rw [View.read_writes_full]
       repeat rw [window_all]
       repeat rw [put_tile]
       simp only [yN0, stepN0, adjN0, agg0, diag0, hN0, sZ0, ssZ0, h1, h2, if_true, if_false, not_true, not_false_iff]
       first | done | rfl)
    isplitl [H9]
    · iexists _; isplitr; swap; (· iexact H9); ipureintro
      (sl_unfold_run_names; dsimp only
       try simp only [load_window, cover_window]
       repeat rw [View.read_writes_full]
       try simp only [store_put, View.writes_nil, harg2.read_unread, harg3.read_unread, harg4.read_unread, harg5.read_unread, harg6.read_unread, harg7.read_unread, harg8.read_unread, harg9.read_unread, harg10.read_unread]
       repeat rw [View.read_writes_full]
       repeat rw [window_all]
       repeat rw [put_tile]
       simp only [yN0, stepN0, adjN0, agg0, diag0, hN0, sZ0, ssZ0, h1, h2, if_true, if_false, not_true, not_false_iff]
       first | done | rfl)
    iexists _; isplitr; swap; (· iexact H10); ipureintro
    (sl_unfold_run_names; dsimp only
     try simp only [load_window, cover_window]
     repeat rw [View.read_writes_full]
     try simp only [store_put, View.writes_nil, harg2.read_unread, harg3.read_unread, harg4.read_unread, harg5.read_unread, harg6.read_unread, harg7.read_unread, harg8.read_unread, harg9.read_unread, harg10.read_unread]
     repeat rw [View.read_writes_full]
     repeat rw [window_all]
     repeat rw [put_tile]
     simp only [yN0, stepN0, adjN0, agg0, diag0, hN0, sZ0, ssZ0, h1, h2, if_true, if_false, not_true, not_false_iff]
     first | done | rfl)

end Cert.KernelIdeal.Own

end
-- ==== Proof.KernelIdeal.Dat0.lean ====
/- The first kernel's region: what its windows hold at every point, from the buffers it is entered with, and that its body keeps to it. -/
module

public import proofs.«01_k».proof.Proof.KernelIdeal.Body0
public import proofs.«01_k».proof.Proof.Gen.KernelIdeal.Points
public import Idealize.ShloMosaic.Lib.Pipeline.FrameBody
public import Idealize.ShloMosaic.Lib.Pipeline.DatRel

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The blocks that the body reads at point `t`. -/
def in0 (c : Dev nD) (t : Fin cfg0.N) : In0 F where
  x := iblk0 V c 0 t
  adj := iblk0 V c 1 t
  W := iblk0 V c 2 t
  b := iblk0 V c 3 t

instance : Nonempty (St0 F) := ⟨⟨fun _ => k0_pay7 (F := F) (ix2 (0 : Fin 1) (0 : Fin 128)), k0_pay7, k0_pay8⟩⟩

/-- The carried state before point `n`: from any state, the points' steps one after another. -/
def stAt0 (c : Dev nD) : ℕ → St0 F
  | 0 => Classical.arbitrary _
  | n + 1 => if h : n < cfg0.N then stepN0 (grid0.coords ⟨n, h⟩) (in0 V c ⟨n, h⟩) (stAt0 c n) else stAt0 c n

theorem stAt0_succ (c : Dev nD) (t : Fin cfg0.N) : stAt0 V c (t.val + 1) = stepN0 (grid0.coords t) (in0 V c t) (stAt0 V c t.val) :=
  dif_pos t.isLt

/-- The first point sets up the whole state. -/
theorem first0 : ∀ t : Fin grid0.N, t.val = 0 → cond01 (grid0.coords t) ∧ cond02 (grid0.coords t) := by decide +kernel

/-- What a point computes depends on the state found there only after the first point. -/
theorem agree0 (c : Dev nD) (t : Fin cfg0.N) (S : St0 F) (h : t.val ≠ 0 → S = stAt0 V c t.val) :
    yN0 (grid0.coords t) (in0 V c t) S = yN0 (grid0.coords t) (in0 V c t) (stAt0 V c t.val)
      ∧ stepN0 (grid0.coords t) (in0 V c t) S = stAt0 V c (t.val + 1) := by
  rw [stAt0_succ]
  by_cases hz : t.val = 0
  · obtain ⟨h1, h2⟩ := first0 t hz
    constructor <;> simp only [yN0, stepN0, agg0, hN0, sZ0, ssZ0, h1, h2, if_true]
  · rw [h hz]; exact ⟨rfl, rfl⟩

/-- The invariant before point `n`: the projected features at the carried state's after the first point, every other scoped buffer at
    anything. -/
def Phi0 (c : Dev nD) (n : ℕ) (_ : n ≤ cfg0.N) : sProp 𝕄 :=
  iprop((∃ h : Vec F S4096x128 .f32, ⌜n ≠ 0 → h = (stAt0 V c n).h⌝ ∗ owns (c : Thread nD τ) (Memref.whole cc0_scratch0) fullShare h)
    ∗ Pipeline.scopedRestBut (Ix := Unit) (Name := ℕ) (U := UR sig nD τ) (Lvl := ℕ) (Val := Elt F) spec0 c [cc0_scratch0]
    ∗ ∃ r, prngReg c r)

/-- What every window holds after the body at every point. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => yN0 (grid0.coords t) (in0 V c t) (stAt0 V c t.val)
    | ⟨5, _⟩ => (stAt0 V c (t.val + 1)).s
    | ⟨6, _⟩ => (stAt0 V c (t.val + 1)).ss
    | ⟨7, _⟩ => adjN0 (grid0.coords t) (in0 V c t)
  Φ t := Phi0 V c t.val (Nat.le_of_lt_succ t.isLt)
  q _ := fullShare
  owed _ := 0

/-- The two windows of the running sums are held to a relation. -/
def fg0 (w : Fin cfg0.W) : Bool := match w with
  | ⟨5, _⟩ => true
  | ⟨6, _⟩ => true
  | ⟨_, _⟩ => false

/-- After every point a running sum's window holds the carried state's sum. -/
def Rl0 (c : Dev nD) (w : Fin cfg0.W) (t : Fin cfg0.N) (X : (cfg0.win w).block.Idx → Elt F (cfg0.win w).elt) : Prop :=
  X = (dat0 V c).after w t

theorem A0_eq (c : Dev nD) (w : Fin cfg0.W) : (dat0 V c).A w = V c (Proc.devRef .tc (Pipeline.arrRef spec0 w)) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = yN0 (grid0.coords t) (in0 V c t) (stAt0 V c t.val) := by dsimp only [dat0]
theorem after0_5 (c : Dev nD) (t : Fin cfg0.N) : (dat0 V c).after 5 t = (stAt0 V c (t.val + 1)).s := by dsimp only [dat0]
theorem after0_6 (c : Dev nD) (t : Fin cfg0.N) : (dat0 V c).after 6 t = (stAt0 V c (t.val + 1)).ss := by dsimp only [dat0]
theorem after0_7 (c : Dev nD) (t : Fin cfg0.N) : (dat0 V c).after 7 t = adjN0 (grid0.coords t) (in0 V c t) := by dsimp only [dat0]

/-- An input's buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)

/-- What a marked window may hold when the body starts, after the first point: what was left at the point before. -/
theorem finds0 (c : Dev nD) (w : Fin cfg0.W) (hw : fg0 w = true) (hf : ∀ t, (cfg0.win w).fetch t = false)
    (hfl : ∀ t : Fin cfg0.N, (cfg0.win w).flush t = true ↔ t.val % 8 = 7) (t : Fin cfg0.N) (ht : t.val ≠ 0) (Y)
    (hY : ((dat0 V c).toRRel fg0 (Rl0 V c)).Finds w t Y) : Y = (dat0 V c).after w ⟨t.val - 1, Nat.lt_of_le_of_lt (Nat.sub_le _ _) t.isLt⟩ := by
  rcases (RDat.finds_of_pos _ (hf t) ht Y).mp hY with h | h
  · have := (hfl _).mp h
    have hN : t.val < 8 := lt_of_lt_of_eq t.isLt (show cfg0.N = 8 from N_0)
    have : (t.val - 1) % 8 = 7 := this
    omega
  · exact (dat0 V c).toRRel_leaves hw h

theorem finds0_5 (c : Dev nD) (t : Fin cfg0.N) (ht : t.val ≠ 0) (Y)
    (hY : ((dat0 V c).toRRel fg0 (Rl0 V c)).Finds 5 t Y) : Y = (stAt0 V c t.val).s := by
  have h := finds0 V c 5 rfl (fun _ => rfl) flush0_5 t ht Y hY
  rw [after0_5] at h
  have e : t.val - 1 + 1 = t.val := by omega
  exact h.trans (congrArg (fun n => (stAt0 V c n).s) e)

theorem finds0_6 (c : Dev nD) (t : Fin cfg0.N) (ht : t.val ≠ 0) (Y)
    (hY : ((dat0 V c).toRRel fg0 (Rl0 V c)).Finds 6 t Y) : Y = (stAt0 V c t.val).ss := by
  have h := finds0 V c 6 rfl (fun _ => rfl) flush0_6 t ht Y hY
  rw [after0_6] at h
  have e : t.val - 1 + 1 = t.val := by omega
  exact h.trans (congrArg (fun n => (stAt0 V c n).ss) e)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ Y, ⌜((dat0 V c).toRRel fg0 (Rl0 V c)).Finds 5 t Y⌝ ∗ owns (c : Thread nD τ) (st0_5 t) fullShare Y)
    ∗ (∃ Y, ⌜((dat0 V c).toRRel fg0 (Rl0 V c)).Finds 6 t Y⌝ ∗ owns (c : Thread nD τ) (st0_6 t) fullShare Y)
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (∃ X, ⌜Rl0 V c 5 t X⌝ ∗ owns (c : Thread nD τ) (st0_5 t) fullShare X)
    ∗ (∃ X, ⌜Rl0 V c 6 t X⌝ ∗ owns (c : Thread nD τ) (st0_6 t) fullShare X)
    ∗ owns (c : Thread nD τ) (st0_7 t) fullShare ((dat0 V c).after 7 t))

theorem Phi0_castSucc (c : Dev nD) (t : Fin cfg0.N) : (dat0 V c).Φ t.castSucc = Phi0 V c t.val (Nat.le_of_lt t.isLt) := by
  dsimp only [dat0]; exact Pipeline.Dat.Φ_castSucc (Phi0 V c) t

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, after0_7]
  rw [show (dat0 V c).Φ t.succ = Phi0 V c (t.val + 1) t.isLt from rfl, Phi0_castSucc]
  unfold Rl0
  rw [after0_5, after0_6]
  unfold Phi0
  iintro ⟨⟨⟨%h, %hh, HS⟩, Hb, Hg⟩, Ho, ⟨%d0, H0⟩, ⟨%d1, H1⟩, ⟨%d2, H2⟩, ⟨%d3, H3⟩, ⟨%d4, H4⟩, ⟨%s, %hs, H5⟩, ⟨%ss, %hss, H6⟩, ⟨%d7, H7⟩⟩
  obtain ⟨ey, es⟩ := agree0 V c t ⟨h, s, ss⟩ (fun ht => by
    rw [hh ht, finds0_5 V c t ht s hs, finds0_6 V c t ht ss hss])
  rw [← ey, ← es]
  iapply (body0_run c (grid0.coords t) _ _ _ _ _ _ _ _ _ _ _ _ _ _ _ _ _ _ (cases0 t) (in0 V c t) _ _ ⟨h, s, ss⟩ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hb Hg]
  · isplitl [HS]
    · iexists _; isplitr; swap; (· iexact HS)
      ipureintro; exact fun _ => rfl
    isplitl [Hb]; · iexact Hb
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr; swap; (· iexact H5)
    ipureintro; rfl
  isplitl [H6]
  · iexists _; isplitr; swap; (· iexact H6)
    ipureintro; rfl
  iexact H7

/-- The body table's row at point `t`'s slots is the body there. -/
theorem defs₀_row0 (t : Fin cfg0.N) : defs₀ (F := F) .tc cfg0.body (cfg0.bodyArgs t (cfg0.slots t)) = bodyAt0 t := by
  unfold defs₀; rw [Defs.onTc_tc]

/-- The body keeps to the proof data at every point. -/
theorem body_obligation0 (c : Dev nD) : BodyObligationRel (dat0 V c) (defs₀ (F := F)) Variants.none () Set.univ fg0 (Rl0 V c) := fun t => by
  rw [bigSep_W0, bigSep_W0, defs₀_row0]
  exact triple_restated (sound_body0 V c t) rfl .rfl fun _ => .rfl

/-- The scoped buffers and the generator register are the invariant before the first point, -/
theorem Phi0_in (c : Dev nD) : (iprop(Pipeline.scopedRest spec0 c ∗ ∃ r, prngReg c r) : sProp 𝕄) ⊢ (dat0 V c).Φ 0 := by
  rw [show (dat0 V c).Φ 0 = Phi0 V c 0 (Nat.zero_le _) from rfl, scopedRest0_split]
  unfold Phi0
  simp only [owns_whole]
  iintro ⟨⟨⟨%f, HS⟩, Hb⟩, Hg⟩
  isplitl [HS]
  · iexists f; isplitr; swap; (· iexact HS)
    ipureintro; exact fun h => absurd rfl h
  isplitl [Hb]; · iexact Hb
  iexact Hg

/-- and come back out of the invariant after the last. -/
theorem Phi0_out (c : Dev nD) : (dat0 V c).Φ (Fin.last cfg0.N) ⊢ (iprop(Pipeline.scopedRest spec0 c ∗ ∃ r, prngReg c r) : sProp 𝕄) := by
  rw [show (dat0 V c).Φ (Fin.last cfg0.N) = Phi0 V c cfg0.N (Nat.le_refl _) from rfl, scopedRest0_split]
  unfold Phi0
  simp only [owns_whole]
  iintro ⟨⟨%f, %hf, HS⟩, Hb, Hg⟩
  isplitl [HS Hb]
  · isplitl [HS]; · iexists f; iexact HS
    iexact Hb
  iexact Hg

end Cert.KernelIdeal.Own

end
-- ==== Proof.KernelIdeal.Step1.lean ====
/- What one grid point of the fused kernel computes, as plain functions of vectors: the inputs of the point, the state that the kernel
   carries from point to point (three scratch buffers and the two running sums), and the state that the point leaves. -/
module

public import proofs.«01_k».proof.Proof.Gen.KernelIdeal.Launch
public import proofs.«01_k».proof.Proof.Gen.KernelIdeal.Skeleton
public import proofs.«01_k».proof.Proof.KernelIdeal.Vec

@[expose] public section

set_option maxRecDepth 16384

noncomputable section

namespace Cert.KernelIdeal.Own

open Cert.KernelIdeal Cert.KernelIdeal.Gen
open Idealize.ShloMosaic Idealize.ShloMosaic.TcCoe
open Idealize.ShloMosaic.VecWindow (put window)

variable {F : FTy → Type} [FloatOps F]

/-- The twelve blocks that a point of the fused kernel reads. -/
structure In1 (F : FTy → Type) where
  yprev : Vec F S1x4096x128 .f32
  adj : Vec F S1x1024x4096 .bf16
  s1 : Vec F S1x128 .f32
  ss1 : Vec F S1x128 .f32
  g0 : Vec F S1x128 .f32
  be0 : Vec F S1x128 .f32
  W1 : Vec F S128x128 .f32
  b1 : Vec F S1x128 .f32
  g1 : Vec F S1x128 .f32
  be1 : Vec F S1x128 .f32
  W2 : Vec F S128x128 .f32
  b2 : Vec F S1x128 .f32

/-- What the fused kernel carries: the two halves of the projected features, the activations of its first layer, that layer's statistics,
    and the statistics of its second layer. -/
structure St1 (F : FTy → Type) where
  h : Vec F S4096x256 .bf16
  v : Vec F S2x4096x128 .f32
  st : Vec F S2x128 .f32
  s : Vec F S1x128 .f32
  ss : Vec F S1x128 .f32

/-- The first `scf.if`: the very first point. -/
def cond1 (i : grid1.Coords) : Prop :=
  Scalar.cmpi .ne (Scalar.extui (Scalar.andi (Scalar.cmpi .eq (BitVec.ofNat 32 (i 0).val) 0#32)
    (Scalar.andi (Scalar.cmpi .eq (BitVec.ofNat 32 (i 1).val) 0#32) (Scalar.cmpi .eq (BitVec.ofNat 32 (i 2).val) 0#32))) : BitVec 32) 0#32 = 1#1

/-- The third `scf.if`: the first row tile of a batch in the first layer. -/
def cond3 (i : grid1.Coords) : Prop :=
  Scalar.cmpi .ne (Scalar.extui (Scalar.andi (Scalar.cmpi .eq (BitVec.ofNat 32 (i 0).val) 0#32)
    (Scalar.cmpi .eq (BitVec.ofNat 32 (i 2).val) 0#32)) : BitVec 32) 0#32 = 1#1

instance (i : grid1.Coords) : Decidable (cond1 i) := by unfold cond1; infer_instance
instance (i : grid1.Coords) : Decidable (cond3 i) := by unfold cond3; infer_instance

/-- Row `0` and row `1` of the statistics. -/
def row0 (st : Vec F S2x128 .f32) : Vec F S1x128 .f32 := window st ![0, 0] S1x128.size inb_S2x128_S1x128_0_0
def row1 (st : Vec F S2x128 .f32) : Vec F S1x128 .f32 := window st ![1, 0] S1x128.size inb_S2x128_S1x128_1_0

/-- The statistics scratch after the zeroing at the very first point. -/
def stZ (i : grid1.Coords) (st : Vec F S2x128 .f32) : Vec F S2x128 .f32 := if cond1 i then k1_pay15 else st

/-- The running sums after the zeroing at the second layer's first point. -/
def sZ (i : grid1.Coords) (s : Vec F S1x128 .f32) : Vec F S1x128 .f32 := if k1_cond2 i = 1#1 then k1_pay16 else s
def ssZ (i : grid1.Coords) (s : Vec F S1x128 .f32) : Vec F S1x128 .f32 := if k1_cond2 i = 1#1 then k1_pay17 else s

/-- The projected features, recomputed at the first row tile of a batch. -/
def hN (i : grid1.Coords) (X : In1 F) (S : St1 F) : Vec F S4096x256 .bf16 :=
  if cond3 i then
    halves (k1_pay10 X.s1 X.ss1 X.g0 X.be0 X.yprev X.W1)
      (k1_pay18 (k1_pay8 X.s1 X.ss1 X.g0 X.be0 X.yprev X.W1) (k1_pay9 X.s1 X.ss1 X.g0 X.be0 X.yprev X.W1))
  else if h4 : k1_cond4 i = 1#1 then
    halves (k1_pay13 (row0 S.st) (row1 S.st) X.g1 X.be1 (window S.v (k1_off1 i) S1x4096x128.size (k1_off1_inb i h4)) X.W2)
      (k1_pay19 (k1_pay11 (row0 S.st) (row1 S.st) X.g1 X.be1 (window S.v (k1_off1 i) S1x4096x128.size (k1_off1_inb i h4)) X.W2)
        (k1_pay14 (row0 S.st) (row1 S.st) X.g1 X.be1 (window S.v (k1_off1 i) S1x4096x128.size (k1_off1_inb i h4)) X.W2))
  else S.h

/-- Whether the point lies in the first layer, as the word the kernel selects a bias by. -/
def layer (i : grid1.Coords) : BitVec 1 := Scalar.cmpi .eq (BitVec.ofNat 32 (i 0).val) 0#32

/-- The aggregated features of the point's row tile. -/
def agg (i : grid1.Coords) (X : In1 F) (S : St1 F) : FVec F S1024x128 .f32 := k1_pay20 X.adj (hN i X S)

/-- The row tile that the point stores. -/
def yN (i : grid1.Coords) (X : In1 F) (S : St1 F) : Vec F S1x1024x128 .f32 := k1_pay2 (agg i X S) (layer i) X.b1 X.b2

/-- The state that the point leaves. -/
def stepN (i : grid1.Coords) (X : In1 F) (S : St1 F) : St1 F where
  h := hN i X S
  v := if k1_cond5 i = 1#1 then put S.v (k1_off2 i) S1x1024x128.size (k1_pay3 (agg i X S) (layer i) X.b1 X.b2) else S.v
  st := if k1_cond5 i = 1#1 then
      put (put (stZ i S.st) ![0, 0] S1x128.size (k1_pay4 (agg i X S) (layer i) X.b1 X.b2 (row0 (stZ i S.st)))) ![1, 0] S1x128.size
        (k1_pay5 (agg i X S) (layer i) X.b1 X.b2 (row1 (stZ i S.st)))
    else stZ i S.st
  s := if k1_cond6 i = 1#1 then k1_pay6 (agg i X S) (layer i) X.b1 X.b2 (sZ i S.s) else sZ i S.s
  ss := if k1_cond6 i = 1#1 then k1_pay7 (agg i X S) (layer i) X.b1 X.b2 (ssZ i S.ss) else ssZ i S.ss

/-- The six ways in which the kernel's conditions come out. -/
def Cases1 (i : grid1.Coords) : Prop :=
  (cond1 i ∧ ¬ k1_cond2 i = 1#1 ∧ cond3 i ∧ ¬ k1_cond4 i = 1#1 ∧ k1_cond5 i = 1#1 ∧ ¬ k1_cond6 i = 1#1)
  ∨ (¬ cond1 i ∧ ¬ k1_cond2 i = 1#1 ∧ cond3 i ∧ ¬ k1_cond4 i = 1#1 ∧ k1_cond5 i = 1#1 ∧ ¬ k1_cond6 i = 1#1)
  ∨ (¬ cond1 i ∧ ¬ k1_cond2 i = 1#1 ∧ ¬ cond3 i ∧ ¬ k1_cond4 i = 1#1 ∧ k1_cond5 i = 1#1 ∧ ¬ k1_cond6 i = 1#1)
  ∨ (¬ cond1 i ∧ k1_cond2 i = 1#1 ∧ ¬ cond3 i ∧ k1_cond4 i = 1#1 ∧ ¬ k1_cond5 i = 1#1 ∧ k1_cond6 i = 1#1)
  ∨ (¬ cond1 i ∧ ¬ k1_cond2 i = 1#1 ∧ ¬ cond3 i ∧ k1_cond4 i = 1#1 ∧ ¬ k1_cond5 i = 1#1 ∧ k1_cond6 i = 1#1)
  ∨ (¬ cond1 i ∧ ¬ k1_cond2 i = 1#1 ∧ ¬ cond3 i ∧ ¬ k1_cond4 i = 1#1 ∧ ¬ k1_cond5 i = 1#1 ∧ k1_cond6 i = 1#1)

instance (i : grid1.Coords) : Decidable (Cases1 i) := by unfold Cases1; infer_instance

/-- At every point of the grid the conditions come out in one of the six ways. -/
theorem cases1 : ∀ t : Fin grid1.N, Cases1 (grid1.coords t) := by decide +kernel

end Cert.KernelIdeal.Own

end
-- ==== Proof.KernelIdeal.Body1.lean ====
/- The body of the fused kernel at one grid point: from the point's inputs and the carried state it runs to its end and leaves the row tile
   and the state that Step1 computes. -/
module

public import proofs.«01_k».proof.Proof.KernelIdeal.Step1
public import Idealize.ShloMosaic.Lib.Pipeline.Frame
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.VecWindow (put window)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The body at a point whose conditions come out in one of the six ways, from the inputs `X`, anything in the row tile's buffer, and the
    carried state `S`. -/
theorem body1_run (c : Dev nD) (i : grid1.Coords) (arg3 : Memref sig .tc .vmem S1x4096x128 .f32) (harg3 : arg3.IsWhole) (arg4 : Memref sig .tc .vmem S1x1024x4096 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x1024x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S4096x256 .bf16) (harg18 : arg18.IsWhole) (arg19 : Memref sig .tc .vmem S2x4096x128 .f32) (harg19 : arg19.IsWhole) (arg20 : Memref sig .tc .vmem S2x128 .f32) (harg20 : arg20.IsWhole)
    (hc : Cases1 i) (X : In1 F) (y : Vec F S1x1024x128 .f32) (S : St1 F) (E : Set ℕ) (K : PUnit → sProp 𝕄) :
    iprop(owns (c : Thread nD τ) arg3 fullShare X.yprev ∗ owns (c : Thread nD τ) arg4 fullShare X.adj ∗ owns (c : Thread nD τ) arg5 fullShare X.s1 ∗ owns (c : Thread nD τ) arg6 fullShare X.ss1 ∗ owns (c : Thread nD τ) arg7 fullShare X.g0 ∗ owns (c : Thread nD τ) arg8 fullShare X.be0 ∗ owns (c : Thread nD τ) arg9 fullShare X.W1 ∗ owns (c : Thread nD τ) arg10 fullShare X.b1 ∗ owns (c : Thread nD τ) arg11 fullShare X.g1 ∗ owns (c : Thread nD τ) arg12 fullShare X.be1 ∗ owns (c : Thread nD τ) arg13 fullShare X.W2 ∗ owns (c : Thread nD τ) arg14 fullShare X.b2 ∗ owns (c : Thread nD τ) arg15 fullShare y ∗ owns (c : Thread nD τ) arg16 fullShare S.s ∗ owns (c : Thread nD τ) arg17 fullShare S.ss ∗ owns (c : Thread nD τ) arg18 fullShare S.h ∗ owns (c : Thread nD τ) arg19 fullShare S.v ∗ owns (c : Thread nD τ) arg20 fullShare S.st
        ∗ (iprop(owns (c : Thread nD τ) arg3 fullShare X.yprev ∗ owns (c : Thread nD τ) arg4 fullShare X.adj ∗ owns (c : Thread nD τ) arg5 fullShare X.s1 ∗ owns (c : Thread nD τ) arg6 fullShare X.ss1 ∗ owns (c : Thread nD τ) arg7 fullShare X.g0 ∗ owns (c : Thread nD τ) arg8 fullShare X.be0 ∗ owns (c : Thread nD τ) arg9 fullShare X.W1 ∗ owns (c : Thread nD τ) arg10 fullShare X.b1 ∗ owns (c : Thread nD τ) arg11 fullShare X.g1 ∗ owns (c : Thread nD τ) arg12 fullShare X.be1 ∗ owns (c : Thread nD τ) arg13 fullShare X.W2 ∗ owns (c : Thread nD τ) arg14 fullShare X.b2 ∗ owns (c : Thread nD τ) arg15 fullShare (yN i X S) ∗ owns (c : Thread nD τ) arg16 fullShare (stepN i X S).s ∗ owns (c : Thread nD τ) arg17 fullShare (stepN i X S).ss ∗ owns (c : Thread nD τ) arg18 fullShare (stepN i X S).h ∗ owns (c : Thread nD τ) arg19 fullShare (stepN i X S).v ∗ owns (c : Thread nD τ) arg20 fullShare (stepN i X S).st) -∗ K ⟨⟩))
      ⊢ wp frame (wpE (defs₀ (F := F)) Variants.none c none) E (cc1__fused23_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1__fused23_body_eq_skeleton]; unfold cc1__fused23_body_skel
  simp only [k1_part3_eq_skeleton]; unfold k1_part3_skel
  simp only [k1_part1_eq_skeleton, k1_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  unfold Cases1 at hc
  rcases hc with ⟨h1, h2, h3, h4, h5, h6⟩ | ⟨h1, h2, h3, h4, h5, h6⟩ | ⟨h1, h2, h3, h4, h5, h6⟩ | ⟨h1, h2, h3, h4, h5, h6⟩ | ⟨h1, h2, h3, h4, h5, h6⟩ | ⟨h1, h2, h3, h4, h5, h6⟩
  all_goals
    have g1 := h1; have g3 := h3
    unfold cond1 at g1; unfold cond3 at g3
    sl_exec (disch := first | sl_exact g1 | sl_exact g3 | sl_exact h1 | sl_exact h2 | sl_exact h3 | sl_exact h4 | sl_exact h5 | sl_exact h6)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; swap; (· iexact H15); ipureintro
      (sl_unfold_run_names; dsimp only
       try simp only [load_window, cover_window]
       repeat rw [View.read_writes_full]
       try simp only [store_put, View.writes_nil, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, harg20.read_unread]
       repeat rw [View.read_writes_full]
       repeat rw [window_all]
       repeat rw [put_put_halves]
       repeat rw [window_row1_put_row0]
       repeat rw [put_rows]
       simp only [yN, stepN, agg, hN, stZ, sZ, ssZ, h1, h2, h3, h4, h5, h6, if_true, if_false, dite_true, dite_false, not_true, not_false_iff]
       first | done | rfl)
    isplitl [H16]
    · iexists _; isplitr; swap; (· iexact H16); ipureintro
      (sl_unfold_run_names; dsimp only
       try simp only [load_window, cover_window]
       repeat rw [View.read_writes_full]
       try simp only [store_put, View.writes_nil, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, harg20.read_unread]
       repeat rw [View.read_writes_full]
       repeat rw [window_all]
       repeat rw [put_put_halves]
       repeat rw [window_row1_put_row0]
       repeat rw [put_rows]
       simp only [yN, stepN, agg, hN, stZ, sZ, ssZ, h1, h2, h3, h4, h5, h6, if_true, if_false, dite_true, dite_false, not_true, not_false_iff]
       first | done | rfl)
    isplitl [H17]
    · iexists _; isplitr; swap; (· iexact H17); ipureintro
      (sl_unfold_run_names; dsimp only
       try simp only [load_window, cover_window]
       repeat rw [View.read_writes_full]
       try simp only [store_put, View.writes_nil, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, harg20.read_unread]
       repeat rw [View.read_writes_full]
       repeat rw [window_all]
       repeat rw [put_put_halves]
       repeat rw [window_row1_put_row0]
       repeat rw [put_rows]
       simp only [yN, stepN, agg, hN, stZ, sZ, ssZ, h1, h2, h3, h4, h5, h6, if_true, if_false, dite_true, dite_false, not_true, not_false_iff]
       first | done | rfl)
    isplitl [H18]
    · iexists _; isplitr; swap; (· iexact H18); ipureintro
      (sl_unfold_run_names; dsimp only
       try simp only [load_window, cover_window]
       repeat rw [View.read_writes_full]
       try simp only [store_put, View.writes_nil, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, harg20.read_unread]
       repeat rw [View.read_writes_full]
       repeat rw [window_all]
       repeat rw [put_put_halves]
       repeat rw [window_row1_put_row0]
       repeat rw [put_rows]
       simp only [yN, stepN, agg, hN, stZ, sZ, ssZ, h1, h2, h3, h4, h5, h6, if_true, if_false, dite_true, dite_false, not_true, not_false_iff]
       first | done | rfl)
    isplitl [H19]
    · iexists _; isplitr; swap; (· iexact H19); ipureintro
      (sl_unfold_run_names; dsimp only
       try simp only [load_window, cover_window]
       repeat rw [View.read_writes_full]
       try simp only [store_put, View.writes_nil, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, harg20.read_unread]
       repeat rw [View.read_writes_full]
       repeat rw [window_all]
       repeat rw [put_put_halves]
       repeat rw [window_row1_put_row0]
       repeat rw [put_rows]
       simp only [yN, stepN, agg, hN, stZ, sZ, ssZ, h1, h2, h3, h4, h5, h6, if_true, if_false, dite_true, dite_false, not_true, not_false_iff]
       first | done | rfl)
    iexists _; isplitr; swap; (· iexact H20); ipureintro
    (sl_unfold_run_names; dsimp only
     try simp only [load_window, cover_window]
     repeat rw [View.read_writes_full]
     try simp only [store_put, View.writes_nil, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, harg20.read_unread]
     repeat rw [View.read_writes_full]
     repeat rw [window_all]
     repeat rw [put_put_halves]
     repeat rw [window_row1_put_row0]
     repeat rw [put_rows]
     simp only [yN, stepN, agg, hN, stZ, sZ, ssZ, h1, h2, h3, h4, h5, h6, if_true, if_false, dite_true, dite_false, not_true, not_false_iff]
     first | done | rfl)

end Cert.KernelIdeal.Own

end
-- ==== Proof.KernelIdeal.Dat1.lean ====
/- The fused kernel's region: what its windows hold at every point, from the buffers it is entered with, and that its body keeps to it. -/
module

public import proofs.«01_k».proof.Proof.KernelIdeal.Body1
public import proofs.«01_k».proof.Proof.Gen.KernelIdeal.Points
public import Idealize.ShloMosaic.Lib.Pipeline.FrameBody
public import Idealize.ShloMosaic.Lib.Pipeline.DatRel

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (put window)
open Idealize.ShloMosaic.Pipeline (Dat RDat Cfg Window BodyObligationRel)

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The blocks that the body reads at point `t`. -/
def in1 (c : Dev nD) (t : Fin cfg1.N) : In1 F where
  yprev := iblk1 V c 0 t
  adj := iblk1 V c 1 t
  s1 := iblk1 V c 2 t
  ss1 := iblk1 V c 3 t
  g0 := iblk1 V c 4 t
  be0 := iblk1 V c 5 t
  W1 := iblk1 V c 6 t
  b1 := iblk1 V c 7 t
  g1 := iblk1 V c 8 t
  be1 := iblk1 V c 9 t
  W2 := iblk1 V c 10 t
  b2 := iblk1 V c 11 t

instance : Nonempty (St1 F) :=
  ⟨⟨fun _ => Scalar.truncf .bf16 bitsLt_bf16_f32 (k1_pay16 (F := F) (ix2 (0 : Fin 1) (0 : Fin 128))), fun _ => k1_pay16 (F := F) (ix2 (0 : Fin 1) (0 : Fin 128)), k1_pay15, k1_pay16, k1_pay17⟩⟩

/-- The carried state before point `n`: from any state, the points' steps one after another. -/
def stAt1 (c : Dev nD) : ℕ → St1 F
  | 0 => Classical.arbitrary _
  | n + 1 => if h : n < cfg1.N then stepN (grid1.coords ⟨n, h⟩) (in1 V c ⟨n, h⟩) (stAt1 c n) else stAt1 c n

theorem stAt1_succ (c : Dev nD) (t : Fin cfg1.N) : stAt1 V c (t.val + 1) = stepN (grid1.coords t) (in1 V c t) (stAt1 V c t.val) :=
  dif_pos t.isLt

/-- When each of the kernel's conditions holds. -/
theorem conds1 : ∀ t : Fin grid1.N, (cond1 (grid1.coords t) ↔ t.val = 0) ∧ (k1_cond2 (grid1.coords t) = 1#1 ↔ t.val = 8)
    ∧ (cond3 (grid1.coords t) ↔ t.val = 0 ∨ t.val = 4) ∧ (k1_cond4 (grid1.coords t) = 1#1 ↔ t.val = 8 ∨ t.val = 12)
    ∧ (k1_cond5 (grid1.coords t) = 1#1 ↔ t.val < 8) ∧ (k1_cond6 (grid1.coords t) = 1#1 ↔ 8 ≤ t.val) := by decide +kernel

/-- Where a point of the first layer stores its row tile. -/
theorem off2_eq : ∀ t : Fin grid1.N, t.val < 8 → k1_off2 (grid1.coords t) = ![t.val / 4, t.val % 4 * 1024, 0] := by decide +kernel

/-- Two carried states agree before point `n` as far as the points from `n` on read them: everything recomputed or overwritten before it
    is read is left out. -/
def Agree1 (n : ℕ) (S S' : St1 F) : Prop :=
  n ≠ 0 → (S.h = S'.h ∧ S.st = S'.st ∧ (∀ j : S2x4096x128.Idx, (j 0).val * 4 + (j 1).val / 1024 < n → S.v j = S'.v j)
    ∧ (8 < n → S.s = S'.s ∧ S.ss = S'.ss))

/-- What a point computes depends on the state found there only as far as states that agree there are equal. -/
theorem agree1 (c : Dev nD) (t : Fin cfg1.N) (S : St1 F) (h : Agree1 t.val S (stAt1 V c t.val)) :
    yN (grid1.coords t) (in1 V c t) S = yN (grid1.coords t) (in1 V c t) (stAt1 V c t.val)
      ∧ Agree1 (t.val + 1) (stepN (grid1.coords t) (in1 V c t) S) (stAt1 V c (t.val + 1)) := by
  rw [stAt1_succ]
  generalize stAt1 V c t.val = S' at h
  generalize in1 V c t = X
  obtain ⟨e1, e2, e3, e4, e5, e6⟩ := conds1 t
  have o2 := off2_eq t
  generalize grid1.coords t = i at e1 e2 e3 e4 e5 e6 o2
  have hlt : t.val < 16 := lt_of_lt_of_eq t.isLt (show cfg1.N = 16 from N_1)
  have hv : 8 ≤ t.val → S.v = S'.v := fun h8 => funext fun j => (h (by omega)).2.2.1 j (by
    have h0 : (j 0).val < 2 := (j 0).isLt
    have h1 : (j 1).val < 4096 := (j 1).isLt
    omega)
  have hh : hN i X S = hN i X S' := by
    unfold hN
    split_ifs with h3 h4
    · rfl
    · have : 8 ≤ t.val := by rcases e4.mp h4 with h | h <;> omega
      rw [hv this, (h (by omega)).2.1]
    · exact (h fun hz => h3 (e3.mpr (Or.inl hz))).1
  have ha : agg i X S = agg i X S' := by unfold agg; rw [hh]
  have hz : stZ i S.st = stZ i S'.st := by
    unfold stZ
    split_ifs with h1
    · rfl
    · exact (h fun hz => h1 (e1.mpr hz)).2.1
  refine ⟨by unfold yN; rw [ha], fun _ => ⟨hh, ?_, fun j hj => ?_, fun h8 => ?_⟩⟩
  · simp only [stepN]; rw [hz, ha]
  · simp only [stepN]; rw [ha]
    split_ifs with h5
    · rw [o2 (e5.mp h5)]
      unfold put
      split_ifs with hin
      · rfl
      · by_cases hz : t.val = (j 0).val * 4 + (j 1).val / 1024
        · refine absurd (fun a => ?_) hin
          have h0 : (j 0).val < 2 := (j 0).isLt
          have h1 : (j 1).val < 4096 := (j 1).isLt
          have h2 : (j 2).val < 128 := (j 2).isLt
          exact match a with
            | ⟨0, _⟩ => ⟨by show t.val / 4 ≤ (j 0).val; omega, by show (j 0).val < t.val / 4 + 1; omega⟩
            | ⟨1, _⟩ => ⟨by show t.val % 4 * 1024 ≤ (j 1).val; omega, by show (j 1).val < t.val % 4 * 1024 + 1024; omega⟩
            | ⟨2, _⟩ => ⟨Nat.zero_le _, by show (j 2).val < 0 + 128; omega⟩
        · exact (h (by omega)).2.2.1 j (by omega)
    · rw [hv (Nat.le_of_not_lt fun h => h5 (e5.mpr h))]
  · have h8' : 8 ≤ t.val := by omega
    have hs : sZ i S.s = sZ i S'.s ∧ ssZ i S.ss = ssZ i S'.ss := by
      unfold sZ ssZ
      split_ifs with h2
      · exact ⟨rfl, rfl⟩
      · have : t.val ≠ 8 := fun h => h2 (e2.mpr h)
        exact (h (by omega)).2.2.2 (by omega)
    simp only [stepN]; rw [ha, hs.1, hs.2]; exact ⟨rfl, rfl⟩

/-- The invariant before point `n`: the three scratch buffers at contents that agree with the carried state, every other scoped buffer at
    anything. -/
def Phi1 (c : Dev nD) (n : ℕ) (_ : n ≤ cfg1.N) : sProp 𝕄 :=
  iprop((∃ (h : Vec F S4096x256 .bf16) (v : Vec F S2x4096x128 .f32) (st : Vec F S2x128 .f32),
      ⌜n ≠ 0 → (h = (stAt1 V c n).h ∧ st = (stAt1 V c n).st ∧ ∀ j : S2x4096x128.Idx, (j 0).val * 4 + (j 1).val / 1024 < n → v j = (stAt1 V c n).v j)⌝
      ∗ owns (c : Thread nD τ) (Memref.whole cc1_scratch0) fullShare h ∗ owns (c : Thread nD τ) (Memref.whole cc1_scratch1) fullShare v
      ∗ owns (c : Thread nD τ) (Memref.whole cc1_scratch2) fullShare st)
    ∗ Pipeline.scopedRestBut (Ix := Unit) (Name := ℕ) (U := UR sig nD τ) (Lvl := ℕ) (Val := Elt F) spec1 c [cc1_scratch0, cc1_scratch1, cc1_scratch2]
    ∗ ∃ r, prngReg c r)

/-- What every window holds after the body at every point. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => yN (grid1.coords t) (in1 V c t) (stAt1 V c t.val)
    | ⟨13, _⟩ => (stAt1 V c (t.val + 1)).s
    | ⟨14, _⟩ => (stAt1 V c (t.val + 1)).ss
  Φ t := Phi1 V c t.val (Nat.le_of_lt_succ t.isLt)
  q _ := fullShare
  owed _ := 0

/-- The two windows of the running sums are held to a relation. -/
def fg1 (w : Fin cfg1.W) : Bool := match w with
  | ⟨13, _⟩ => true
  | ⟨14, _⟩ => true
  | ⟨_, _⟩ => false

/-- From the second layer's first point on, a running sum's window holds after every point the carried state's sum. -/
def Rl1 (c : Dev nD) (w : Fin cfg1.W) (t : Fin cfg1.N) (X : (cfg1.win w).block.Idx → Elt F (cfg1.win w).elt) : Prop :=
  8 ≤ t.val → X = (dat1 V c).after w t

theorem A1_eq (c : Dev nD) (w : Fin cfg1.W) : (dat1 V c).A w = V c (Proc.devRef .tc (Pipeline.arrRef spec1 w)) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = yN (grid1.coords t) (in1 V c t) (stAt1 V c t.val) := by dsimp only [dat1]
theorem after1_13 (c : Dev nD) (t : Fin cfg1.N) : (dat1 V c).after 13 t = (stAt1 V c (t.val + 1)).s := by dsimp only [dat1]
theorem after1_14 (c : Dev nD) (t : Fin cfg1.N) : (dat1 V c).after 14 t = (stAt1 V c (t.val + 1)).ss := by dsimp only [dat1]

/-- An input's buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A1_eq]; try rfl) t d).trans
    (by unfold Dat.fetched Dat.blockOf iblk1; rw [A1_eq]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A1_eq]; try rfl) t d).trans
    (by unfold Dat.fetched Dat.blockOf iblk1; rw [A1_eq]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A1_eq]; try rfl) t d).trans
    (by unfold Dat.fetched Dat.blockOf iblk1; rw [A1_eq]; try rfl)
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A1_eq]; try rfl) t d).trans
    (by unfold Dat.fetched Dat.blockOf iblk1; rw [A1_eq]; try rfl)
theorem before1_10 (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A1_eq]; try rfl) t d).trans
    (by unfold Dat.fetched Dat.blockOf iblk1; rw [A1_eq]; try rfl)
theorem before1_11 (c : Dev nD) (t : Fin cfg1.N) (d) : (dat1 V c).before 11 t d = iblk1 V c 11 t :=
  ((dat1 V c).before_in_eq_fetched 11 rfl (fun _ => rfl) (fun _ _ _ => rfl) (fun t => by rw [after1_11]; unfold Dat.blockOf iblk1; rw [A1_eq]; try rfl) t d).trans
    (by unfold Dat.fetched Dat.blockOf iblk1; rw [A1_eq]; try rfl)

/-- What a marked window may hold when the body starts, after the second layer's first point: what was left at the point before. -/
theorem finds1 (c : Dev nD) (w : Fin cfg1.W) (hw : fg1 w = true) (hf : ∀ t, (cfg1.win w).fetch t = false)
    (hfl : ∀ t : Fin cfg1.N, (cfg1.win w).flush t = true ↔ t.val % 16 = 15) (t : Fin cfg1.N) (ht : 8 < t.val) (Y)
    (hY : ((dat1 V c).toRRel fg1 (Rl1 V c)).Finds w t Y) : Y = (dat1 V c).after w ⟨t.val - 1, Nat.lt_of_le_of_lt (Nat.sub_le _ _) t.isLt⟩ := by
  rcases (RDat.finds_of_pos _ (hf t) (by omega) Y).mp hY with h | h
  · have := (hfl _).mp h
    have hN : t.val < 16 := lt_of_lt_of_eq t.isLt (show cfg1.N = 16 from N_1)
    have : (t.val - 1) % 16 = 15 := this
    omega
  · exact (dat1 V c).toRRel_leaves hw h (by show 8 ≤ t.val - 1; omega)

theorem finds1_13 (c : Dev nD) (t : Fin cfg1.N) (ht : 8 < t.val) (Y)
    (hY : ((dat1 V c).toRRel fg1 (Rl1 V c)).Finds 13 t Y) : Y = (stAt1 V c t.val).s := by
  have h := finds1 V c 13 rfl (fun _ => rfl) flush1_13 t ht Y hY
  rw [after1_13] at h
  have e : t.val - 1 + 1 = t.val := by omega
  exact h.trans (congrArg (fun n => (stAt1 V c n).s) e)

theorem finds1_14 (c : Dev nD) (t : Fin cfg1.N) (ht : 8 < t.val) (Y)
    (hY : ((dat1 V c).toRRel fg1 (Rl1 V c)).Finds 14 t Y) : Y = (stAt1 V c t.val).ss := by
  have h := finds1 V c 14 rfl (fun _ => rfl) flush1_14 t ht Y hY
  rw [after1_14] at h
  have e : t.val - 1 + 1 = t.val := by omega
  exact h.trans (congrArg (fun n => (stAt1 V c n).ss) e)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ Y, ⌜((dat1 V c).toRRel fg1 (Rl1 V c)).Finds 13 t Y⌝ ∗ owns (c : Thread nD τ) (st1_13 t) fullShare Y)
    ∗ (∃ Y, ⌜((dat1 V c).toRRel fg1 (Rl1 V c)).Finds 14 t Y⌝ ∗ owns (c : Thread nD τ) (st1_14 t) fullShare Y))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ (∃ X, ⌜Rl1 V c 13 t X⌝ ∗ owns (c : Thread nD τ) (st1_13 t) fullShare X)
    ∗ (∃ X, ⌜Rl1 V c 14 t X⌝ ∗ owns (c : Thread nD τ) (st1_14 t) fullShare X))

theorem Phi1_castSucc (c : Dev nD) (t : Fin cfg1.N) : (dat1 V c).Φ t.castSucc = Phi1 V c t.val (Nat.le_of_lt t.isLt) := by
  dsimp only [dat1]; exact Pipeline.Dat.Φ_castSucc (Phi1 V c) t

set_option maxHeartbeats 800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).owesAt () t.succ = (dat1 V c).owesAt () t.castSucc from rfl,
    after1_0, after1_1, after1_2, after1_3, after1_4, after1_5, after1_6, after1_7, after1_8, after1_9, after1_10, after1_11, after1_12]
  rw [show (dat1 V c).Φ t.succ = Phi1 V c (t.val + 1) t.isLt from rfl, Phi1_castSucc]
  unfold Rl1
  rw [after1_13, after1_14]
  unfold Phi1
  iintro ⟨⟨⟨%h, %v, %st, %hi, HS0, HS1, HS2⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%s, %hs, H13⟩, ⟨%ss, %hss, H14⟩⟩
  obtain ⟨ey, ea⟩ := agree1 V c t ⟨h, v, st, s, ss⟩ (fun ht => ⟨(hi ht).1, (hi ht).2.1, (hi ht).2.2,
    fun h8 => ⟨finds1_13 V c t h8 s hs, finds1_14 V c t h8 ss hss⟩⟩)
  obtain ⟨a1, a2, a3, a4⟩ := ea (Nat.succ_ne_zero _)
  rw [← ey]
  iapply (body1_run c (grid1.coords t) _ _ _ _ _ _ _ _ _ _ _ _ _ _ _ _ _ _ _ _ _ _ _ _ _ _ _ _ _ _ _ _ _ _ _ _ (cases1 t) (in1 V c t) _ ⟨h, v, st, s, ss⟩ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  iintro ⟨H0, H1, H2, H3, H4, H5, H6, H7, H8, H9, H10, H11, H12, H13, H14, HS0, HS1, HS2⟩
  isplitl [HS0 HS1 HS2 Hb Hg]
  · isplitl [HS0 HS1 HS2]
    · iexists _, _, _
      isplitr
      swap
      · isplitl [HS0]; · iexact HS0
        isplitl [HS1]; · iexact HS1
        iexact HS2
      ipureintro; exact fun _ => ⟨a1, a2, a3⟩
    isplitl [Hb]; · iexact Hb
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr; swap; (· iexact H13)
    ipureintro; exact fun h8 => (a4 (Nat.lt_succ_of_le h8)).1
  iexists _; isplitr; swap; (· iexact H14)
  ipureintro; exact fun h8 => (a4 (Nat.lt_succ_of_le h8)).2

/-- The body table's row at point `t`'s slots is the body there. -/
theorem defs₀_row1 (t : Fin cfg1.N) : defs₀ (F := F) .tc cfg1.body (cfg1.bodyArgs t (cfg1.slots t)) = bodyAt1 t := by
  unfold defs₀; rw [Defs.onTc_tc]

/-- The body keeps to the proof data at every point. -/
theorem body_obligation1 (c : Dev nD) : BodyObligationRel (dat1 V c) (defs₀ (F := F)) Variants.none () Set.univ fg1 (Rl1 V c) := fun t => by
  rw [bigSep_W1, bigSep_W1, defs₀_row1]
  exact triple_restated (sound_body1 V c t) rfl .rfl fun _ => .rfl

/-- The scoped buffers apart from the kernel's own scratch. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f)
            ∗ (∃ f : Buf (Elt F) ((c : Thread nD τ).loc cc1_scratch2), ((c : Thread nD τ).loc cc1_scratch2) ↦{fullShare} f))
          ∗ Pipeline.scopedRestBut (Ix := Unit) (Name := ℕ) (U := UR sig nD τ) (Lvl := ℕ) (Val := Elt F) spec1 c [cc1_scratch0, cc1_scratch1, cc1_scratch2]) :=
  Pipeline.scopedRest_split_of_list spec1 c [cc1_scratch0, cc1_scratch1, cc1_scratch2] (by decide) (by decide)

/-- The scoped buffers and the generator register are the invariant before the first point, -/
theorem Phi1_in (c : Dev nD) : (iprop(Pipeline.scopedRest spec1 c ∗ ∃ r, prngReg c r) : sProp 𝕄) ⊢ (dat1 V c).Φ 0 := by
  rw [show (dat1 V c).Φ 0 = Phi1 V c 0 (Nat.zero_le _) from rfl, scopedRest1_split]
  unfold Phi1
  simp only [owns_whole]
  iintro ⟨⟨⟨⟨%f0, HS0⟩, ⟨%f1, HS1⟩, ⟨%f2, HS2⟩⟩, Hb⟩, Hg⟩
  isplitl [HS0 HS1 HS2]
  · iexists f0, f1, f2
    isplitr
    swap
    · isplitl [HS0]; · iexact HS0
      isplitl [HS1]; · iexact HS1
      iexact HS2
    ipureintro; exact fun h => absurd rfl h
  isplitl [Hb]; · iexact Hb
  iexact Hg

/-- and come back out of the invariant after the last. -/
theorem Phi1_out (c : Dev nD) : (dat1 V c).Φ (Fin.last cfg1.N) ⊢ (iprop(Pipeline.scopedRest spec1 c ∗ ∃ r, prngReg c r) : sProp 𝕄) := by
  rw [show (dat1 V c).Φ (Fin.last cfg1.N) = Phi1 V c cfg1.N (Nat.le_refl _) from rfl, scopedRest1_split]
  unfold Phi1
  simp only [owns_whole]
  iintro ⟨⟨%f0, %f1, %f2, %hf, HS0, HS1, HS2⟩, Hb, Hg⟩
  isplitl [HS0 HS1 HS2 Hb]
  · isplitl [HS0 HS1 HS2]
    · isplitl [HS0]; · iexists f0; iexact HS0
      isplitl [HS1]; · iexists f1; iexact HS1
      iexists f2; iexact HS2
    iexact Hb
  iexact Hg

end Cert.KernelIdeal.Own

end
-- ==== Proof.KernelIdeal.Body2.lean ====
/- The body of the last kernel at one grid point: from the point's inputs it runs to its end and leaves the normalised row tile. -/
module

public import proofs.«01_k».proof.Proof.KernelIdeal.Vec
public import Idealize.ShloMosaic.Lib.Pipeline.Frame
public import Idealize.ShloMosaic.Lib.Tactic
public import proofs.«01_k».proof.Proof.Gen.KernelIdeal.Skeleton

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.VecWindow (put window)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The body from its five input blocks and anything in the output's buffer. -/
theorem body2_run (c : Dev nD) (i : grid2.Coords) (arg2 : Memref sig .tc .vmem S1x1024x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1024x128 .f32) (harg7 : arg7.IsWhole)
    (x : Vec F S1x1024x128 .f32) (s ss g be : Vec F S1x128 .f32) (o : Vec F S1x1024x128 .f32) (E : Set ℕ) (K : PUnit → sProp 𝕄) :
    iprop(owns (c : Thread nD τ) arg2 fullShare x ∗ owns (c : Thread nD τ) arg3 fullShare s ∗ owns (c : Thread nD τ) arg4 fullShare ss ∗ owns (c : Thread nD τ) arg5 fullShare g ∗ owns (c : Thread nD τ) arg6 fullShare be ∗ owns (c : Thread nD τ) arg7 fullShare o
        ∗ (iprop(owns (c : Thread nD τ) arg2 fullShare x ∗ owns (c : Thread nD τ) arg3 fullShare s ∗ owns (c : Thread nD τ) arg4 fullShare ss ∗ owns (c : Thread nD τ) arg5 fullShare g ∗ owns (c : Thread nD τ) arg6 fullShare be ∗ owns (c : Thread nD τ) arg7 fullShare (k2_pay1 s ss g be x)) -∗ K ⟨⟩))
      ⊢ wp frame (wpE (defs₀ (F := F)) Variants.none c none) E (cc2__bn_body i arg2 harg2 arg3 harg3 arg4 harg4 arg5 harg5 arg6 harg6 arg7 harg7) K := by
  simp only [cc2__bn_body_eq_skeleton]; unfold cc2__bn_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr; swap; (· iexact H7); ipureintro
  (sl_unfold_run_names; dsimp only
   try simp only [load_window, cover_window]
   repeat rw [View.read_writes_full]
   try simp only [store_put, View.writes_nil, harg2.read_unread, harg3.read_unread, harg4.read_unread, harg5.read_unread, harg6.read_unread, harg7.read_unread]
   repeat rw [View.read_writes_full]
   repeat rw [window_all]

   first | done | rfl)

end Cert.KernelIdeal.Own

end
-- ==== Proof.KernelIdeal.Dat2.lean ====
/- The last kernel's region: what its windows hold at every point, from the buffers it is entered with, and that its body keeps to it. -/
module

public import proofs.«01_k».proof.Proof.KernelIdeal.Body2
public import proofs.«01_k».proof.Proof.Gen.KernelIdeal.Points
public import Idealize.ShloMosaic.Lib.Pipeline.FrameBody
public import Idealize.ShloMosaic.Lib.Pipeline.DatRel

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The row tile that the body stores at point `t`. -/
def yN2 (c : Dev nD) (t : Fin cfg2.N) : Vec F S1x1024x128 .f32 :=
  k2_pay1 (iblk2 V c 1 t) (iblk2 V c 2 t) (iblk2 V c 3 t) (iblk2 V c 4 t) (iblk2 V c 0 t)

/-- What every window holds after the body at every point. -/
def dat2 (c : Dev nD) : Dat τ (Elt F) Unit ℕ (UR sig nD τ) ℕ cfg2 c where
  A w := V c (Proc.devRef .tc (Pipeline.arrRef spec2 w))
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => yN2 V c t
  Φ _ := iprop(Pipeline.scopedRest spec2 c ∗ ∃ r, prngReg c r)
  q _ := fullShare
  owed _ := 0

/-- No window is held to a relation. -/
def fg2 (_ : Fin cfg2.W) : Bool := false

/-- The relation that no window is held to. -/
def Rl2 (c : Dev nD) (w : Fin cfg2.W) (t : Fin cfg2.N) (X : (cfg2.win w).block.Idx → Elt F (cfg2.win w).elt) : Prop :=
  X = (dat2 V c).after w t

theorem A2_eq (c : Dev nD) (w : Fin cfg2.W) : (dat2 V c).A w = V c (Proc.devRef .tc (Pipeline.arrRef spec2 w)) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = yN2 V c t := by dsimp only [dat2]

/-- An input's buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A2_eq]; try rfl) t d).trans
    (by unfold Dat.fetched Dat.blockOf iblk2; rw [A2_eq]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A2_eq]; try rfl) t d).trans
    (by unfold Dat.fetched Dat.blockOf iblk2; rw [A2_eq]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A2_eq]; try rfl) t d).trans
    (by unfold Dat.fetched Dat.blockOf iblk2; rw [A2_eq]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl, show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (body2_run c (grid2.coords t) _ _ _ _ _ _ _ _ _ _ _ _ (iblk2 V c 0 t) (iblk2 V c 1 t) (iblk2 V c 2 t) (iblk2 V c 3 t) (iblk2 V c 4 t) _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body there. -/
theorem defs₀_row2 (t : Fin cfg2.N) : defs₀ (F := F) .tc cfg2.body (cfg2.bodyArgs t (cfg2.slots t)) = bodyAt2 t := by
  unfold defs₀; rw [Defs.onTc_tc]

/-- The body keeps to the proof data at every point. -/
theorem body_obligation2 (c : Dev nD) : BodyObligationRel (dat2 V c) (defs₀ (F := F)) Variants.none () Set.univ fg2 (Rl2 V c) := fun t => by
  rw [bigSep_W2, bigSep_W2, defs₀_row2]
  exact triple_restated (sound_body2 V c t) rfl .rfl fun _ => .rfl

end Cert.KernelIdeal.Own

end
-- ==== Proof.KernelIdeal.Run.lean ====
/- The program's run: what every buffer that outlives a kernel holds after each of its six items, and that every execution ends there. -/
module

public import proofs.«01_k».proof.Proof.Lib.Region
public import proofs.«01_k».proof.Proof.KernelIdeal.Dat0
public import proofs.«01_k».proof.Proof.KernelIdeal.Dat1
public import proofs.«01_k».proof.Proof.KernelIdeal.Dat2
public import proofs.«01_k».proof.Proof.Gen.KernelIdeal.Regions

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel HostSeg)

variable {F : FTy → Type} [FloatOps F]

local notation "𝕄" => MT nD τ sig Unit (Elt F) ℕ (UR sig nD τ) ℕ

variable (m : (ℓ : Loc nD τ sig) → Buf (Elt F) ℓ)

/-! ## The buffers after each item -/

/-- The buffers at launch. -/
def W0 (c : Dev nD) : Valuation τ sig (Elt F) := fun b => m (c, b)
/-- After the first host stretch. -/
def W1 (c : Dev nD) : Valuation τ sig (Elt F) := StableHlo.after hostOps0 (W0 m c)
/-- After the first kernel. -/
def W2 (c : Dev nD) : Valuation τ sig (Elt F) := Function.update (Function.update (Function.update (Function.update (W1 m c) (Proc.devRef .tc main_v1_0) ((dat0 (W1 m) c).arrAt 4 cfg0.N)) (Proc.devRef .tc main_v1_1) ((dat0 (W1 m) c).arrAt 5 cfg0.N)) (Proc.devRef .tc main_v1_2) ((dat0 (W1 m) c).arrAt 6 cfg0.N)) (Proc.devRef .tc main_v1_3) ((dat0 (W1 m) c).arrAt 7 cfg0.N)
/-- After the second host stretch. -/
def W3 (c : Dev nD) : Valuation τ sig (Elt F) := StableHlo.after hostOps1 (W2 m c)
/-- After the fused kernel. -/
def W4 (c : Dev nD) : Valuation τ sig (Elt F) := Function.update (Function.update (Function.update (W3 m c) (Proc.devRef .tc main_v8_0) ((dat1 (W3 m) c).arrAt 12 cfg1.N)) (Proc.devRef .tc main_v8_1) ((dat1 (W3 m) c).arrAt 13 cfg1.N)) (Proc.devRef .tc main_v8_2) ((dat1 (W3 m) c).arrAt 14 cfg1.N)
/-- After the third host stretch. -/
def W5 (c : Dev nD) : Valuation τ sig (Elt F) := StableHlo.after hostOps2 (W4 m c)
/-- After the last kernel. -/
def W6 (c : Dev nD) : Valuation τ sig (Elt F) := Function.update (W5 m c) (Proc.devRef .tc main_v11) ((dat2 (W5 m) c).arrAt 5 cfg2.N)

/-! ## What each item leaves unchanged, and what it leaves -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W2_of (c : Dev nD) (r : Ref sig .tc) (h : r ∉ ([main_v1_0, main_v1_1, main_v1_2, main_v1_3] : List (Ref sig .tc))) : W2 m c (Proc.devRef .tc r) = W1 m c (Proc.devRef .tc r) := by
  simp only [List.mem_cons, List.not_mem_nil, or_false, not_or] at h
  unfold W2
  rw [Function.update_of_ne (StableHlo.devRef_ne_of_ne h.2.2.2), Function.update_of_ne (StableHlo.devRef_ne_of_ne h.2.2.1), Function.update_of_ne (StableHlo.devRef_ne_of_ne h.2.1), Function.update_of_ne (StableHlo.devRef_ne_of_ne h.1)]
theorem W4_of (c : Dev nD) (r : Ref sig .tc) (h : r ∉ ([main_v8_0, main_v8_1, main_v8_2] : List (Ref sig .tc))) : W4 m c (Proc.devRef .tc r) = W3 m c (Proc.devRef .tc r) := by
  simp only [List.mem_cons, List.not_mem_nil, or_false, not_or] at h
  unfold W4
  rw [Function.update_of_ne (StableHlo.devRef_ne_of_ne h.2.2), Function.update_of_ne (StableHlo.devRef_ne_of_ne h.2.1), Function.update_of_ne (StableHlo.devRef_ne_of_ne h.1)]
theorem W6_of (c : Dev nD) (r : Ref sig .tc) (h : r ∉ ([main_v11] : List (Ref sig .tc))) : W6 m c (Proc.devRef .tc r) = W5 m c (Proc.devRef .tc r) := by
  simp only [List.mem_cons, List.not_mem_nil, or_false, not_or] at h
  unfold W6
  rw [Function.update_of_ne (StableHlo.devRef_ne_of_ne h)]
theorem W2_main_v1_0 (c : Dev nD) : W2 m c (Proc.devRef .tc main_v1_0) = (dat0 (W1 m) c).arrAt 4 cfg0.N := by
  unfold W2
  rw [Function.update_of_ne (StableHlo.devRef_ne_of_ne (by decide)), Function.update_of_ne (StableHlo.devRef_ne_of_ne (by decide)), Function.update_of_ne (StableHlo.devRef_ne_of_ne (by decide)), Function.update_self]
theorem W2_main_v1_1 (c : Dev nD) : W2 m c (Proc.devRef .tc main_v1_1) = (dat0 (W1 m) c).arrAt 5 cfg0.N := by
  unfold W2
  rw [Function.update_of_ne (StableHlo.devRef_ne_of_ne (by decide)), Function.update_of_ne (StableHlo.devRef_ne_of_ne (by decide)), Function.update_self]
theorem W2_main_v1_2 (c : Dev nD) : W2 m c (Proc.devRef .tc main_v1_2) = (dat0 (W1 m) c).arrAt 6 cfg0.N := by
  unfold W2
  rw [Function.update_of_ne (StableHlo.devRef_ne_of_ne (by decide)), Function.update_self]
theorem W2_main_v1_3 (c : Dev nD) : W2 m c (Proc.devRef .tc main_v1_3) = (dat0 (W1 m) c).arrAt 7 cfg0.N := by
  unfold W2
  rw [Function.update_self]
theorem W4_main_v8_0 (c : Dev nD) : W4 m c (Proc.devRef .tc main_v8_0) = (dat1 (W3 m) c).arrAt 12 cfg1.N := by
  unfold W4
  rw [Function.update_of_ne (StableHlo.devRef_ne_of_ne (by decide)), Function.update_of_ne (StableHlo.devRef_ne_of_ne (by decide)), Function.update_self]
theorem W4_main_v8_1 (c : Dev nD) : W4 m c (Proc.devRef .tc main_v8_1) = (dat1 (W3 m) c).arrAt 13 cfg1.N := by
  unfold W4
  rw [Function.update_of_ne (StableHlo.devRef_ne_of_ne (by decide)), Function.update_self]
theorem W4_main_v8_2 (c : Dev nD) : W4 m c (Proc.devRef .tc main_v8_2) = (dat1 (W3 m) c).arrAt 14 cfg1.N := by
  unfold W4
  rw [Function.update_self]
theorem W6_main_v11 (c : Dev nD) : W6 m c (Proc.devRef .tc main_v11) = (dat2 (W5 m) c).arrAt 5 cfg2.N := by
  unfold W6
  rw [Function.update_self]

/-- A buffer that no item writes ends as launched. -/
theorem W6_kept (c : Dev nD) (r : Ref sig .tc) (h : r ∉ hostOps0_W ++ hostOps1_W ++ hostOps2_W ++ ([main_v1_0, main_v1_1, main_v1_2, main_v1_3, main_v8_0, main_v8_1, main_v8_2, main_v11] : List (Ref sig .tc))) :
    W6 m c (Proc.devRef .tc r) = m ((c : Thread nD τ).loc r) := by
  simp only [List.mem_append, not_or] at h
  obtain ⟨⟨⟨h0, h1⟩, h2⟩, h3⟩ := h
  refine (W6_of m c r fun k => h3 (?_)).trans <| (W5_of m c r h2).trans <| (W4_of m c r fun k => h3 (?_)).trans <|
    (W3_of m c r h1).trans <| (W2_of m c r fun k => h3 (?_)).trans <| (W1_of m c r h0).trans rfl
  · simp only [List.mem_cons, List.not_mem_nil, or_false] at k ⊢; tauto
  · simp only [List.mem_cons, List.not_mem_nil, or_false] at k ⊢; tauto
  · simp only [List.mem_cons, List.not_mem_nil, or_false] at k ⊢; tauto

/-! ## The three kernels' regions -/

/-- The proof data of the three pipelines. -/
def pd : (p : Fin 3) → (c : Dev nD) → Dat τ (Elt F) Unit ℕ (UR sig nD τ) ℕ (cfgs p) c := fun p => match p with
  | ⟨0, _⟩ => dat0 (W1 m)
  | ⟨1, _⟩ => dat1 (W3 m)
  | ⟨2, _⟩ => dat2 (W5 m)

/-- The windows held to a relation. -/
def fg : (p : Fin 3) → Fin (cfgs p).W → Bool := fun p => match p with
  | ⟨0, _⟩ => fg0
  | ⟨1, _⟩ => fg1
  | ⟨2, _⟩ => fg2

/-- The relations they are held to. -/
def Rl : (p : Fin 3) → (c : Dev nD) → (w : Fin (cfgs p).W) → Fin (cfgs p).N → (((cfgs p).win w).block.Idx → Elt F ((cfgs p).win w).elt) → Prop := fun p => match p with
  | ⟨0, _⟩ => Rl0 (W1 m)
  | ⟨1, _⟩ => Rl1 (W3 m)
  | ⟨2, _⟩ => Rl2 (W5 m)

set_option maxHeartbeats 4000000 in
/-- Region 0's arrays at its end are the buffers after it. -/
theorem arr0_end (c : Dev nD) (w : Fin cfg0.W) : (dat0 (W1 m) c).arrAt w cfg0.N = W2 m c (Proc.devRef .tc (Pipeline.arrRef spec0 w)) := match w with
  | ⟨0, _⟩ => ((dat0 (W1 m) c).arrAt_in 0 rfl _).trans ((A0_eq (W1 m) c 0).trans (W2_of m c main_arg0 (by decide)).symm)
  | ⟨1, _⟩ => ((dat0 (W1 m) c).arrAt_in 1 rfl _).trans ((A0_eq (W1 m) c 1).trans (W2_of m c main_arg1 (by decide)).symm)
  | ⟨2, _⟩ => ((dat0 (W1 m) c).arrAt_in 2 rfl _).trans ((A0_eq (W1 m) c 2).trans (W2_of m c main_arg2 (by decide)).symm)
  | ⟨3, _⟩ => ((dat0 (W1 m) c).arrAt_in 3 rfl _).trans ((A0_eq (W1 m) c 3).trans (W2_of m c main_v0 (by decide)).symm)
  | ⟨4, _⟩ => (W2_main_v1_0 m c).symm
  | ⟨5, _⟩ => (W2_main_v1_1 m c).symm
  | ⟨6, _⟩ => (W2_main_v1_2 m c).symm
  | ⟨7, _⟩ => (W2_main_v1_3 m c).symm

/-- Every other buffer is as before region 0. -/
theorem arr0_rest (c : Dev nD) (b : Ref sig .tc) (hb : b ∉ Finset.univ.image (Pipeline.arrRef spec0)) :
    W2 m c (Proc.devRef .tc b) = W1 m c (Proc.devRef .tc b) :=
  W2_of m c b fun h => by
    simp only [List.mem_cons, List.not_mem_nil, or_false] at h
    rcases h with rfl | rfl | rfl | rfl
    · exact hb (Finset.mem_image.mpr ⟨(4 : Fin 8), Finset.mem_univ _, rfl⟩)
    · exact hb (Finset.mem_image.mpr ⟨(5 : Fin 8), Finset.mem_univ _, rfl⟩)
    · exact hb (Finset.mem_image.mpr ⟨(6 : Fin 8), Finset.mem_univ _, rfl⟩)
    · exact hb (Finset.mem_image.mpr ⟨(7 : Fin 8), Finset.mem_univ _, rfl⟩)

set_option maxHeartbeats 4000000 in
/-- Region 1's arrays at its end are the buffers after it. -/
theorem arr1_end (c : Dev nD) (w : Fin cfg1.W) : (dat1 (W3 m) c).arrAt w cfg1.N = W4 m c (Proc.devRef .tc (Pipeline.arrRef spec1 w)) := match w with
  | ⟨0, _⟩ => ((dat1 (W3 m) c).arrAt_in 0 rfl _).trans ((A1_eq (W3 m) c 0).trans (W4_of m c main_v1_0 (by decide)).symm)
  | ⟨1, _⟩ => ((dat1 (W3 m) c).arrAt_in 1 rfl _).trans ((A1_eq (W3 m) c 1).trans (W4_of m c main_v1_3 (by decide)).symm)
  | ⟨2, _⟩ => ((dat1 (W3 m) c).arrAt_in 2 rfl _).trans ((A1_eq (W3 m) c 2).trans (W4_of m c main_v1_1 (by decide)).symm)
  | ⟨3, _⟩ => ((dat1 (W3 m) c).arrAt_in 3 rfl _).trans ((A1_eq (W3 m) c 3).trans (W4_of m c main_v1_2 (by decide)).symm)
  | ⟨4, _⟩ => ((dat1 (W3 m) c).arrAt_in 4 rfl _).trans ((A1_eq (W3 m) c 4).trans (W4_of m c main_v2 (by decide)).symm)
  | ⟨5, _⟩ => ((dat1 (W3 m) c).arrAt_in 5 rfl _).trans ((A1_eq (W3 m) c 5).trans (W4_of m c main_v3 (by decide)).symm)
  | ⟨6, _⟩ => ((dat1 (W3 m) c).arrAt_in 6 rfl _).trans ((A1_eq (W3 m) c 6).trans (W4_of m c main_arg6 (by decide)).symm)
  | ⟨7, _⟩ => ((dat1 (W3 m) c).arrAt_in 7 rfl _).trans ((A1_eq (W3 m) c 7).trans (W4_of m c main_v4 (by decide)).symm)
  | ⟨8, _⟩ => ((dat1 (W3 m) c).arrAt_in 8 rfl _).trans ((A1_eq (W3 m) c 8).trans (W4_of m c main_v5 (by decide)).symm)
  | ⟨9, _⟩ => ((dat1 (W3 m) c).arrAt_in 9 rfl _).trans ((A1_eq (W3 m) c 9).trans (W4_of m c main_v6 (by decide)).symm)
  | ⟨10, _⟩ => ((dat1 (W3 m) c).arrAt_in 10 rfl _).trans ((A1_eq (W3 m) c 10).trans (W4_of m c main_arg10 (by decide)).symm)
  | ⟨11, _⟩ => ((dat1 (W3 m) c).arrAt_in 11 rfl _).trans ((A1_eq (W3 m) c 11).trans (W4_of m c main_v7 (by decide)).symm)
  | ⟨12, _⟩ => (W4_main_v8_0 m c).symm
  | ⟨13, _⟩ => (W4_main_v8_1 m c).symm
  | ⟨14, _⟩ => (W4_main_v8_2 m c).symm

/-- Every other buffer is as before region 1. -/
theorem arr1_rest (c : Dev nD) (b : Ref sig .tc) (hb : b ∉ Finset.univ.image (Pipeline.arrRef spec1)) :
    W4 m c (Proc.devRef .tc b) = W3 m c (Proc.devRef .tc b) :=
  W4_of m c b fun h => by
    simp only [List.mem_cons, List.not_mem_nil, or_false] at h
    rcases h with rfl | rfl | rfl
    · exact hb (Finset.mem_image.mpr ⟨(12 : Fin 15), Finset.mem_univ _, rfl⟩)
    · exact hb (Finset.mem_image.mpr ⟨(13 : Fin 15), Finset.mem_univ _, rfl⟩)
    · exact hb (Finset.mem_image.mpr ⟨(14 : Fin 15), Finset.mem_univ _, rfl⟩)

set_option maxHeartbeats 4000000 in
/-- Region 2's arrays at its end are the buffers after it. -/
theorem arr2_end (c : Dev nD) (w : Fin cfg2.W) : (dat2 (W5 m) c).arrAt w cfg2.N = W6 m c (Proc.devRef .tc (Pipeline.arrRef spec2 w)) := match w with
  | ⟨0, _⟩ => ((dat2 (W5 m) c).arrAt_in 0 rfl _).trans ((A2_eq (W5 m) c 0).trans (W6_of m c main_v8_0 (by decide)).symm)
  | ⟨1, _⟩ => ((dat2 (W5 m) c).arrAt_in 1 rfl _).trans ((A2_eq (W5 m) c 1).trans (W6_of m c main_v8_1 (by decide)).symm)
  | ⟨2, _⟩ => ((dat2 (W5 m) c).arrAt_in 2 rfl _).trans ((A2_eq (W5 m) c 2).trans (W6_of m c main_v8_2 (by decide)).symm)
  | ⟨3, _⟩ => ((dat2 (W5 m) c).arrAt_in 3 rfl _).trans ((A2_eq (W5 m) c 3).trans (W6_of m c main_v9 (by decide)).symm)
  | ⟨4, _⟩ => ((dat2 (W5 m) c).arrAt_in 4 rfl _).trans ((A2_eq (W5 m) c 4).trans (W6_of m c main_v10 (by decide)).symm)
  | ⟨5, _⟩ => (W6_main_v11 m c).symm

/-- Every other buffer is as before region 2. -/
theorem arr2_rest (c : Dev nD) (b : Ref sig .tc) (hb : b ∉ Finset.univ.image (Pipeline.arrRef spec2)) :
    W6 m c (Proc.devRef .tc b) = W5 m c (Proc.devRef .tc b) :=
  W6_of m c b fun h => by
    simp only [List.mem_cons, List.not_mem_nil, or_false] at h
    rcases h with rfl
    · exact hb (Finset.mem_image.mpr ⟨(5 : Fin 6), Finset.mem_univ _, rfl⟩)

/-- The fused kernel's running sums are written back at the last point only. -/
theorem flushed1 : ∀ (w : Fin cfg1.W), fg1 w = true → ∀ u : Fin cfg1.N, (cfg1.win w).flush u = true → 8 ≤ u.val := fun w hw u hu => by
  have key : ∀ n, n % 16 = 15 → 8 ≤ n := fun n h => by omega
  match w, hw, hu with
  | ⟨13, _⟩, _, hu => exact key _ ((flush1_13 u).mp hu)
  | ⟨14, _⟩, _, hu => exact key _ ((flush1_14 u).mp hu)

/-- Region 0: entered with the buffers at `W1` and left with them at `W2`. -/
def R0 : RDat.RegionSeg (pcfgs (F := F)) adm (Cert.Region.rels (pcfgs (F := F)) adm (pd m) fg (Rl m)) () defs₀ Variants.none (fun _ => ∅) (fun _ _ => 0) 0 :=
  Cert.Region.seg (pcfgs (F := F)) adm (pd m) () defs₀ Variants.none (fun _ => ∅) (fun _ _ => 0) fg (Rl m) 0 launch0.toP rfl
    (body_obligation0 (W1 m)) (fun _ _ => rfl) (fun _ => rfl) (fun c => (dat0 (W1 m) c).share_full fun _ => rfl)
    (fun c w _ u _ X h => h) (W1 m) (W2 m) (A0_eq (W1 m)) (arr0_end m) (arr0_rest m) (Phi0_in (W1 m)) (Phi0_out (W1 m))

/-- Region 1: entered with the buffers at `W3` and left with them at `W4`. -/
def R1 : RDat.RegionSeg (pcfgs (F := F)) adm (Cert.Region.rels (pcfgs (F := F)) adm (pd m) fg (Rl m)) () defs₀ Variants.none (fun _ => ∅) (fun _ _ => 0) 1 :=
  Cert.Region.seg (pcfgs (F := F)) adm (pd m) () defs₀ Variants.none (fun _ => ∅) (fun _ _ => 0) fg (Rl m) 1 launch1.toP rfl
    (body_obligation1 (W3 m)) (fun _ _ => rfl) (fun _ => rfl) (fun c => (dat1 (W3 m) c).share_full fun _ => rfl)
    (fun c w hw u hu X h => h (flushed1 w hw u hu)) (W3 m) (W4 m) (A1_eq (W3 m)) (arr1_end m) (arr1_rest m) (Phi1_in (W3 m)) (Phi1_out (W3 m))

/-- Region 2: entered with the buffers at `W5` and left with them at `W6`. -/
def R2 : RDat.RegionSeg (pcfgs (F := F)) adm (Cert.Region.rels (pcfgs (F := F)) adm (pd m) fg (Rl m)) () defs₀ Variants.none (fun _ => ∅) (fun _ _ => 0) 2 :=
  Cert.Region.seg (pcfgs (F := F)) adm (pd m) () defs₀ Variants.none (fun _ => ∅) (fun _ _ => 0) fg (Rl m) 2 launch2.toP rfl
    (body_obligation2 (W5 m)) (fun _ _ => rfl) (fun _ => rfl) (fun c => (dat2 (W5 m) c).share_full fun _ => rfl)
    (fun c w hw u hu X h => h) (W5 m) (W6 m) (A2_eq (W5 m)) (arr2_end m) (arr2_rest m) (fun _ => .rfl) (fun _ => .rfl)

/-! ## The run -/

/-- The program's items in order. -/
def items (_ : Dev nD) : List (RDat.Seg (pcfgs (F := F)) adm (Cert.Region.rels (pcfgs (F := F)) adm (pd m) fg (Rl m)) () defs₀ Variants.none (fun _ => ∅) (fun _ _ => 0)) :=
  [.host (HostSeg.ofOps _ _ _ _ _ (Pipeline.ucRefs τ sig) hostOps0 (fun op h => Pipeline.sub_ucRefs op ((List.forall_iff_forall_mem.mp hostOps0_sub) op h))
      (fun op h => (List.forall_iff_forall_mem.mp hostOps0_fresh) op h) (W0 m) Cert.Region.rest),
    .region (R0 m),
    .host (HostSeg.ofOps _ _ _ _ _ (Pipeline.ucRefs τ sig) hostOps1 (fun op h => Pipeline.sub_ucRefs op ((List.forall_iff_forall_mem.mp hostOps1_sub) op h))
      (fun op h => (List.forall_iff_forall_mem.mp hostOps1_fresh) op h) (W2 m) Cert.Region.rest),
    .region (R1 m),
    .host (HostSeg.ofOps _ _ _ _ _ (Pipeline.ucRefs τ sig) hostOps2 (fun op h => Pipeline.sub_ucRefs op ((List.forall_iff_forall_mem.mp hostOps2_sub) op h))
      (fun op h => (List.forall_iff_forall_mem.mp hostOps2_fresh) op h) (W4 m) Cert.Region.rest),
    .region (R2 m)]

set_option backward.isDefEq.respectTransparency.types false in
set_option maxHeartbeats 800000 in
/-- From any memory with zero counters every execution ends, with every buffer that outlives the kernels at `W6` and every counter at
    zero. -/
theorem run (ρ : Dev nD → PrngReg) :
    θ_run defs (onTc (τ := τ) (main (F := F))) ⟨m, fun _ => 0, ρ⟩ (fun r => (∀ c : Dev nD, ∀ b ∈ Pipeline.ucRefs τ sig, r.2.mem (c, b) = W6 m c b)
      ∧ r.2.sem = fun _ => 0) := by
  refine RDat.θ_run_regions_kit_dev_sems (pcfgs (F := F)) adm (Cert.Region.rels (pcfgs (F := F)) adm (pd m) fg (Rl m)) () cellOf_inj emb₁ defs₀ Variants.none (fun _ => ∅) (fun _ _ => 0) m ρ main
    (items m)
    (fun c Q => by
      rewrite [main_chain c, RDat.Seg.run_eq_chain,
        show (items m c).map RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      dsimp (config := { failIfUnchanged := false }) only
      exact .rfl)
    (fun c => by simp only [items, RDat.Seg.pipes_host, RDat.Seg.pipes_region, RDat.Seg.pipes_nil]; decide)
    (fun _ => 0) (fun _ _ => rfl) (fun _ => iprop(emp)) (initOf (Pipeline.cells cfgs cellOf_inj) (Pipeline.launchToks cfgs cellOf_inj)) ?_
    (fun c => iprop(StableHlo.held (c : Thread nD τ) (Pipeline.ucRefs τ sig) (W0 m c) ∗ Cert.Region.rest c))
    (fun c => StableHlo.held (c : Thread nD τ) (Pipeline.ucRefs τ sig) (W6 m c))
    (fun c => ⟨.rfl, .rfl, .rfl, .rfl, .rfl, .rfl, sep_mono .rfl (by unfold Cert.Region.rest; iintro ⟨-, H⟩; iexact H)⟩)
    ?_ (fun c s => ∀ b ∈ Pipeline.ucRefs τ sig, s.mem (c, b) = W6 m c b)
    (fun c s' => ?_) (fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · have hone : ∀ c : Dev nD, (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp) : sProp 𝕄)
        ⊢ iprop(StableHlo.held (c : Thread nD τ) (Pipeline.ucRefs τ sig) (W0 m c) ∗ Cert.Region.rest c) := fun c => by
      rw [← Pipeline.unscopedBufs_held (Ix := Unit) (Name := ℕ) (U := UR sig nD τ) (Lvl := ℕ) c (W0 m c)]
      unfold Cert.Region.rest
      iintro ⟨Hb, -, HO, -, Hp, -⟩
      isplitl [Hb]; · iexact Hb
      isplitl [Hp]; · iexists _; iexact Hp
      iexists _; iexact HO
    iintro ⟨H, -⟩
    imodintro
    iapply (show _ ⊢ _ from bigSep_mono fun c _ => hone c)
    iexact H
  · unfold StableHlo.held
    iintro ⟨Hh, HSI⟩
    ihave Hr := (pointsTo_read_all (Pipeline.ucRefs τ sig) (fun b => ((c : Thread nD τ).1, b)) (W6 m c) s') $$ [Hh HSI]
    · isplitl [Hh] <;> iassumption
    icases Hr with ⟨%h, HSI⟩
    imodintro
    isplitr
    · ipureintro
      exact h
    · iexact HSI

/-- A reference that outlives the kernels is among those read at the end. -/
theorem mem_ucRefs (r : Ref sig .tc) (h : r.isScoped = false) : Proc.devRef .tc r ∈ Pipeline.ucRefs τ sig :=
  Finset.mem_filter.mpr ⟨StableHlo.devRef_mem_tcRefs r, by simpa using h⟩

/-- A memory that holds the last stage's arrays holds the arguments as launched. -/
theorem args_kept {M : (ℓ : Loc nD τ sig) → Buf (Elt F) ℓ} (c : Dev nD) (h : ∀ b ∈ Pipeline.ucRefs τ sig, M (c, b) = W6 m c b) :
    M ((c.tc : Thread nD τ).loc main_arg0) = m ((c.tc : Thread nD τ).loc main_arg0)
    ∧ M ((c.tc : Thread nD τ).loc main_arg1) = m ((c.tc : Thread nD τ).loc main_arg1)
    ∧ M ((c.tc : Thread nD τ).loc main_arg2) = m ((c.tc : Thread nD τ).loc main_arg2)
    ∧ M ((c.tc : Thread nD τ).loc main_arg3) = m ((c.tc : Thread nD τ).loc main_arg3)
    ∧ M ((c.tc : Thread nD τ).loc main_arg4) = m ((c.tc : Thread nD τ).loc main_arg4)
    ∧ M ((c.tc : Thread nD τ).loc main_arg5) = m ((c.tc : Thread nD τ).loc main_arg5)
    ∧ M ((c.tc : Thread nD τ).loc main_arg6) = m ((c.tc : Thread nD τ).loc main_arg6)
    ∧ M ((c.tc : Thread nD τ).loc main_arg7) = m ((c.tc : Thread nD τ).loc main_arg7)
    ∧ M ((c.tc : Thread nD τ).loc main_arg8) = m ((c.tc : Thread nD τ).loc main_arg8)
    ∧ M ((c.tc : Thread nD τ).loc main_arg9) = m ((c.tc : Thread nD τ).loc main_arg9)
    ∧ M ((c.tc : Thread nD τ).loc main_arg10) = m ((c.tc : Thread nD τ).loc main_arg10)
    ∧ M ((c.tc : Thread nD τ).loc main_arg11) = m ((c.tc : Thread nD τ).loc main_arg11)
    ∧ M ((c.tc : Thread nD τ).loc main_arg12) = m ((c.tc : Thread nD τ).loc main_arg12)
    ∧ M ((c.tc : Thread nD τ).loc main_arg13) = m ((c.tc : Thread nD τ).loc main_arg13) :=
  have k : ∀ r : Ref sig .tc, r.isScoped = false → r ∉ hostOps0_W ++ hostOps1_W ++ hostOps2_W ++ ([main_v1_0, main_v1_1, main_v1_2, main_v1_3, main_v8_0, main_v8_1, main_v8_2, main_v11] : List (Ref sig .tc)) →
      M ((c.tc : Thread nD τ).loc r) = m ((c.tc : Thread nD τ).loc r) := fun r hr hk => (h _ (mem_ucRefs r hr)).trans (W6_kept m c r hk)
  ⟨k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide), k main_arg12 (by decide) (by decide), k main_arg13 (by decide) (by decide)⟩

/-- THE FRAME: every execution ends with the arguments as launched and every counter at zero. -/
theorem frame_all (ρ : Dev nD → PrngReg) : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13))
    ∧ r.2.sem = fun _ => 0) :=
  (θ_run defs _ _).mono (fun _ h => ⟨fun c => args_kept m c (h.1 c), h.2⟩) (run m ρ)

/-- What an execution leaves in the result's array, the arguments as launched. -/
theorem run_result (ρ : Dev nD → PrngReg) : θ_run defs (onTc (τ := τ) (main (F := F))) ⟨m, fun _ => 0, ρ⟩ (fun r => ∀ c : Dev nD,
    r.2.mem ((c.tc : Thread nD τ).loc main_v11) = W6 m c (Proc.devRef .tc main_v11)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)) :=
  (θ_run defs _ _).mono (fun _ h c => ⟨h.1 c _ (mem_ucRefs main_v11 (by decide)), args_kept m c (h.1 c)⟩) (run m ρ)

end Cert.KernelIdeal.Own

end
-- ==== Proof.Frames.lean ====
/- The frames: each of the three programs runs to the end, leaves its arguments as launched and its counters at zero. -/
module

public import proofs.«01_k».proof.Defs
public import proofs.«01_k».proof.Proof.Kernel.Run
public import proofs.«01_k».proof.Proof.KernelIdeal.Run
public import proofs.«01_k».proof.Proof.Gen.ReferenceIdeal.Run
public import Idealize.ShloMosaic.Lib.Claim

@[expose] public section

noncomputable section

namespace Cert.Proof

open Idealize.ShloMosaic Idealize.SL.Sem

/-- The kernel over the float words keeps its arguments and ends with its counters at zero. -/
theorem frame_kernel : Cert.quiescent_Kernel (hKernel := Cert.Kernel.Gen.facts) := fun m g _ => Cert.Kernel.Own.frame_all m g

/-- So does the kernel over the reals. -/
theorem frame_kernelIdeal : Cert.quiescent_KernelIdeal (hKernelIdeal := Cert.KernelIdeal.Gen.facts) := fun m g _ => Cert.KernelIdeal.Own.frame_all m g

/-- So does the reference over the reals, which has no counter. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

end Cert.Proof

end
-- ==== Proof.Value.Real.lean ====
/- The network over the reals: functions of natural-number coordinates, and the identities that the two programs differ by. -/
module

public import Idealize.ShloMosaic.PureOps.Ideal
public import Mathlib.Tactic.Ring
public import Mathlib.Tactic.FieldSimp
public import Mathlib.Tactic.Linarith
public import Mathlib.Tactic.Positivity

@[expose] public section

noncomputable section

namespace Cert.Net

/-- The features projected by the layer's weights. -/
def proj (x : ℕ → ℕ → ℕ → ℝ) (W : ℕ → ℕ → ℝ) (b n c : ℕ) : ℝ := ∑ k : Fin 128, x b n k.val * W k.val c

/-- The adjacency with ones on the diagonal. -/
def loops (A : ℕ → ℕ → ℕ → ℝ) (b n m : ℕ) : ℝ := if n = m then 1 else A b n m

/-- The sum over a node's neighbours. -/
def aggr (A h : ℕ → ℕ → ℕ → ℝ) (b n c : ℕ) : ℝ := ∑ m : Fin 4096, A b n m.val * h b m.val c

/-- One graph convolution with its bias and its rectifier; the adjacency already has its loops. -/
def conv (A x : ℕ → ℕ → ℕ → ℝ) (W : ℕ → ℕ → ℝ) (bias : ℕ → ℝ) (b n c : ℕ) : ℝ := max (aggr A (proj x W) b n c + bias c) 0

/-- The sum of a channel over the batches and the nodes. -/
def total (y : ℕ → ℕ → ℕ → ℝ) (c : ℕ) : ℝ := ∑ b : Fin 2, ∑ n : Fin 4096, y b.val n.val c

/-- A channel's mean. -/
def mean (y : ℕ → ℕ → ℕ → ℝ) (c : ℕ) : ℝ := total y c / 8192

/-- A channel's variance. -/
def var (y : ℕ → ℕ → ℕ → ℝ) (c : ℕ) : ℝ := total (fun b n c => (y b n c - mean y c) * (y b n c - mean y c)) c / 8192

/-- The number that the variance is shifted by before its root. -/
def eps : ℝ := 10995116 / 1099511627776

theorem eps_pos : 0 < eps := by unfold eps; norm_num

/-- A normalised channel before the last addition. -/
def scaled (y : ℕ → ℕ → ℕ → ℝ) (g : ℕ → ℝ) (b n c : ℕ) : ℝ := (y b n c - mean y c) * (Real.sqrt (var y c + eps))⁻¹ * g c

/-- The batch normalisation. -/
def norm (y : ℕ → ℕ → ℕ → ℝ) (g be : ℕ → ℝ) (b n c : ℕ) : ℝ := scaled y g b n c + be c

theorem var_nonneg (y : ℕ → ℕ → ℕ → ℝ) (c : ℕ) : 0 ≤ var y c :=
  div_nonneg (Finset.sum_nonneg fun _ _ => Finset.sum_nonneg fun _ _ => mul_self_nonneg _) (by norm_num)

theorem shifted_pos (y : ℕ → ℕ → ℕ → ℝ) (c : ℕ) : 0 < var y c + eps := add_pos_of_nonneg_of_pos (var_nonneg y c) eps_pos

/-- The variance is the mean of the squares less the square of the mean. -/
theorem var_eq (y : ℕ → ℕ → ℕ → ℝ) (c : ℕ) :
    var y c = total (fun b n c => y b n c * y b n c) c / 8192 - mean y c * mean y c := by
  have h : total (fun b n c => (y b n c - mean y c) * (y b n c - mean y c)) c
      = total (fun b n c => y b n c * y b n c) c - 2 * mean y c * total y c + 8192 * (mean y c * mean y c) := by
    unfold total
    beta_reduce
    generalize mean y c = μ
    rw [Finset.mul_sum, ← Finset.sum_sub_distrib]
    have e : ∀ b : Fin 2, ∑ n : Fin 4096, (y b.val n.val c - μ) * (y b.val n.val c - μ)
        = (∑ n : Fin 4096, y b.val n.val c * y b.val n.val c - 2 * μ * ∑ n : Fin 4096, y b.val n.val c) + 4096 * (μ * μ) := fun b => by
      rw [Finset.mul_sum, ← Finset.sum_sub_distrib]
      have k : (4096 : ℝ) * (μ * μ) = ∑ _n : Fin 4096, μ * μ := by simp
      rw [k, ← Finset.sum_add_distrib]
      exact Finset.sum_congr rfl fun n _ => by ring
    rw [Finset.sum_congr rfl fun b _ => e b, Finset.sum_add_distrib]
    congr 1
    rw [Finset.sum_const, Finset.card_univ, Fintype.card_fin, nsmul_eq_mul]; push_cast; ring
  unfold var
  rw [h]
  have t : total y c = 8192 * mean y c := by unfold mean; ring
  rw [t]; ring

/-- One step of Newton's iteration for the reciprocal root leaves the reciprocal root. -/
theorem newton {v : ℝ} (hv : 0 < v) : (Real.sqrt v)⁻¹ * (3 / 2 - 1 / 2 * v * (Real.sqrt v)⁻¹ * (Real.sqrt v)⁻¹) = (Real.sqrt v)⁻¹ := by
  have h : v * (Real.sqrt v)⁻¹ * (Real.sqrt v)⁻¹ = 1 := by
    have hs : Real.sqrt v ≠ 0 := (Real.sqrt_pos.mpr hv).ne'
    have e : Real.sqrt v * Real.sqrt v = v := Real.mul_self_sqrt hv.le
    field_simp
    nlinarith
  have : 1 / 2 * v * (Real.sqrt v)⁻¹ * (Real.sqrt v)⁻¹ = 1 / 2 := by
    rw [show 1 / 2 * v * (Real.sqrt v)⁻¹ * (Real.sqrt v)⁻¹ = 1 / 2 * (v * (Real.sqrt v)⁻¹ * (Real.sqrt v)⁻¹) by ring, h]; ring
  rw [this]; ring

/-- Exchanging one neighbour's own weight for a one, after the sum. -/
theorem aggr_loops (A h : ℕ → ℕ → ℕ → ℝ) (b n c : ℕ) (hn : n < 4096) :
    aggr A h b n c + (1 - A b n n) * h b n c = aggr (loops A) h b n c := by
  unfold aggr
  have e : ∀ m : Fin 4096, loops A b n m.val * h b m.val c
      = A b n m.val * h b m.val c + (if (⟨n, hn⟩ : Fin 4096) = m then (1 - A b n n) * h b n c else 0) := fun m => by
    unfold loops
    by_cases hm : n = m.val
    · rw [if_pos hm, if_pos (Fin.ext hm), ← hm]; ring
    · rw [if_neg hm, if_neg fun h => hm (congrArg Fin.val h), add_zero]
  rw [Finset.sum_congr rfl fun m _ => e m, Finset.sum_add_distrib, Finset.sum_ite_eq, if_pos (Finset.mem_univ _)]

/-- The row tiles of the two batches, one after another, make up the whole sum. -/
theorem sum_tiles (f : ℕ → ℕ → ℝ) :
    ∑ p ∈ Finset.range 8, ∑ r : Fin 1024, f (p / 4) (p % 4 * 1024 + r.val) = ∑ b : Fin 2, ∑ n : Fin 4096, f b.val n.val := by
  have tile : ∀ g : ℕ → ℝ, ∑ q ∈ Finset.range 4, ∑ r : Fin 1024, g (q * 1024 + r.val) = ∑ n : Fin 4096, g n.val := fun g => by
    rw [Fin.sum_univ_eq_sum_range (fun n => g n) 4096]
    rw [Finset.sum_congr rfl fun q _ => Fin.sum_univ_eq_sum_range (fun r => g (q * 1024 + r)) 1024]
    simp only [Finset.sum_range_succ _ 3, Finset.sum_range_succ _ 2, Finset.sum_range_succ _ 1, Finset.sum_range_one]
    rw [show (4096 : ℕ) = 3 * 1024 + 1024 from rfl, Finset.sum_range_add, show (3 * 1024 : ℕ) = 2 * 1024 + 1024 from rfl, Finset.sum_range_add,
      show (2 * 1024 : ℕ) = 1 * 1024 + 1024 from rfl, Finset.sum_range_add]
    simp only [Nat.zero_mul, Nat.zero_add, Nat.one_mul]
  rw [Fin.sum_univ_two]
  show _ = (∑ n : Fin 4096, f 0 n.val) + ∑ n : Fin 4096, f 1 n.val
  rw [show (8 : ℕ) = 4 + 4 from rfl, Finset.sum_range_add]
  refine congrArg₂ (· + ·) ?_ ?_
  · rw [← tile (f 0)]
    refine Finset.sum_congr rfl fun q hq => ?_
    have := Finset.mem_range.mp hq
    rw [Nat.div_eq_of_lt this, Nat.mod_eq_of_lt this]
  · rw [← tile (f 1)]
    refine Finset.sum_congr rfl fun q hq => ?_
    have := Finset.mem_range.mp hq
    rw [show (4 + q) / 4 = 1 by omega, show (4 + q) % 4 = q by omega]

end Cert.Net

end
-- ==== Proof.Value.Finite.lean ====
/- Arrays of extended reals that hold real numbers, and the arithmetic that stays among them. -/
module

public import proofs.«01_k».proof.Proof.Value.Real
public import Idealize.ShloMosaic.Lib.Pipeline.ValueKit

@[expose] public section

set_option maxRecDepth 16384

noncomputable section

namespace Cert.Net

open Idealize.ShloMosaic

/-- The array holds the real function's values. -/
def Is1 {a : ℕ} (x : (⟨1, ![a]⟩ : Shape).Idx → EReal) (f : ℕ → ℝ) : Prop := ∀ i, x (ix1 i) = (f i.val : EReal)
def Is2 {a b : ℕ} (x : (⟨2, ![a, b]⟩ : Shape).Idx → EReal) (f : ℕ → ℕ → ℝ) : Prop := ∀ i j, x (ix2 i j) = (f i.val j.val : EReal)
def Is3 {a b c : ℕ} (x : (⟨3, ![a, b, c]⟩ : Shape).Idx → EReal) (f : ℕ → ℕ → ℕ → ℝ) : Prop := ∀ i j k, x (ix3 i j k) = (f i.val j.val k.val : EReal)

/-- At any index. -/
theorem Is1.at {a : ℕ} {x : (⟨1, ![a]⟩ : Shape).Idx → EReal} {f : ℕ → ℝ} (h : Is1 x f) (j : (⟨1, ![a]⟩ : Shape).Idx) :
    x j = (f (j 0).val : EReal) := by rw [eq_ix1 j]; exact h _
theorem Is2.at {a b : ℕ} {x : (⟨2, ![a, b]⟩ : Shape).Idx → EReal} {f : ℕ → ℕ → ℝ} (h : Is2 x f) (j : (⟨2, ![a, b]⟩ : Shape).Idx) :
    x j = (f (j 0).val (j 1).val : EReal) := by rw [eq_ix2 j]; exact h _ _
theorem Is3.at {a b c : ℕ} {x : (⟨3, ![a, b, c]⟩ : Shape).Idx → EReal} {f : ℕ → ℕ → ℕ → ℝ} (h : Is3 x f) (j : (⟨3, ![a, b, c]⟩ : Shape).Idx) :
    x j = (f (j 0).val (j 1).val (j 2).val : EReal) := by rw [eq_ix3 j]; exact h _ _ _

/-- A finite sum of reals is the extended reals' sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greater of two reals is the extended reals' greater. -/
theorem coe_max (x y : ℝ) : ((max x y : ℝ) : EReal) = max (x : EReal) (y : EReal) := EReal.coe_strictMono.monotone.map_max

/-- A choice by the equality of two small numbers' words is the choice by their equality. -/
theorem select_eq {α : Type} {a b : ℕ} (ha : a < 2 ^ 32) (hb : b < 2 ^ 32) (x y : α) :
    Scalar.select (IntOp.cmpi CmpIPredicate.eq (BitVec.ofNat 32 a) (BitVec.ofNat 32 b)) x y = if a = b then x else y := by
  have : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases h : a = b
  · subst h; simp [Scalar.select, IntOp.cmpi]
  · have hb : (BitVec.ofNat 32 a == BitVec.ofNat 32 b) = false := beq_eq_false_iff_ne.mpr fun e => h (this.mp e)
    simp [Scalar.select, IntOp.cmpi, hb, h]

/-- The words of the kernels' constants. -/
theorem lit_8192th : Ideal.ofBits FTy.f32 956301312#32 = ((1 / 8192 : ℝ) : EReal) := by
  simp [Ideal.ofBits, Ideal.ieee]; norm_num
  rw [← EReal.coe_mul]; norm_num
theorem lit_eps : Ideal.ofBits FTy.f32 925353388#32 = ((eps : ℝ) : EReal) := by
  simp [Ideal.ofBits, Ideal.ieee, eps]; norm_num
  rw [← EReal.coe_mul]; norm_num
theorem lit_half : Ideal.ofBits FTy.f32 1056964608#32 = ((1 / 2 : ℝ) : EReal) := by
  simp [Ideal.ofBits, Ideal.ieee]; norm_num
  rw [← EReal.coe_mul]; norm_num
theorem lit_three_halves : Ideal.ofBits FTy.f32 1069547520#32 = ((3 / 2 : ℝ) : EReal) := by
  simp [Ideal.ofBits, Ideal.ieee]; norm_num
  rw [← EReal.coe_mul]; norm_num
theorem lit_8192 : Ideal.ofBits FTy.f32 1174405120#32 = ((8192 : ℝ) : EReal) := by
  simp [Ideal.ofBits, Ideal.ieee]; norm_num
  rw [← EReal.coe_mul]; norm_num

/-- The reciprocal root of a positive real. -/
theorem rsqrt_pos {v : ℝ} (hv : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.mpr hv.le), if_neg hv.ne']

/-- The number that the kernels multiply a channel by: from the channel's two sums, its variance, the reciprocal root with one
    step of Newton's iteration, and the gain. -/
theorem scale_real (s q g : ℝ) (hv : 0 < q / 8192 - s / 8192 * (s / 8192) + eps) :
    (g : EReal) * (Ideal.rsqrt ((q : EReal) * Ideal.ofBits FTy.f32 956301312#32 - s * Ideal.ofBits FTy.f32 956301312#32 * (s * Ideal.ofBits FTy.f32 956301312#32)
          + Ideal.ofBits FTy.f32 925353388#32)
        * (Ideal.ofBits FTy.f32 1069547520#32 - Ideal.ofBits FTy.f32 1056964608#32
          * ((q : EReal) * Ideal.ofBits FTy.f32 956301312#32 - s * Ideal.ofBits FTy.f32 956301312#32 * (s * Ideal.ofBits FTy.f32 956301312#32)
            + Ideal.ofBits FTy.f32 925353388#32)
          * Ideal.rsqrt ((q : EReal) * Ideal.ofBits FTy.f32 956301312#32 - s * Ideal.ofBits FTy.f32 956301312#32 * (s * Ideal.ofBits FTy.f32 956301312#32)
            + Ideal.ofBits FTy.f32 925353388#32)
          * Ideal.rsqrt ((q : EReal) * Ideal.ofBits FTy.f32 956301312#32 - s * Ideal.ofBits FTy.f32 956301312#32 * (s * Ideal.ofBits FTy.f32 956301312#32)
            + Ideal.ofBits FTy.f32 925353388#32)))
      = ((g * (Real.sqrt (q / 8192 - s / 8192 * (s / 8192) + eps))⁻¹ : ℝ) : EReal) := by
  rw [lit_8192th, lit_eps, lit_half, lit_three_halves]
  have e : (q : EReal) * ((1 / 8192 : ℝ) : EReal) - s * ((1 / 8192 : ℝ) : EReal) * (s * ((1 / 8192 : ℝ) : EReal)) + ((eps : ℝ) : EReal)
      = ((q / 8192 - s / 8192 * (s / 8192) + eps : ℝ) : EReal) := by
    rw [← EReal.coe_mul, ← EReal.coe_mul, ← EReal.coe_mul, ← EReal.coe_sub, ← EReal.coe_add]
    congr 1; ring
  rw [e, rsqrt_pos hv]
  generalize q / 8192 - s / 8192 * (s / 8192) + eps = v at hv
  rw [← EReal.coe_mul, ← EReal.coe_mul, ← EReal.coe_mul, ← EReal.coe_sub, ← EReal.coe_mul, ← EReal.coe_mul, newton hv]

/-- A whole channel of the kernels' normalisation. -/
theorem norm_real (y : ℕ → ℕ → ℕ → ℝ) (g be : ℕ → ℝ) (b n c : ℕ) :
    norm y g be b n c = y b n c * (g c * (Real.sqrt (total (fun b n c => y b n c * y b n c) c / 8192 - total y c / 8192 * (total y c / 8192) + eps))⁻¹)
      + (be c - total y c * (1 / 8192) * (g c * (Real.sqrt (total (fun b n c => y b n c * y b n c) c / 8192 - total y c / 8192 * (total y c / 8192) + eps))⁻¹)) := by
  unfold norm scaled
  rw [var_eq]
  unfold mean
  ring

theorem sums_pos (y : ℕ → ℕ → ℕ → ℝ) (c : ℕ) :
    0 < total (fun b n c => y b n c * y b n c) c / 8192 - total y c / 8192 * (total y c / 8192) + eps := by
  have := shifted_pos y c
  rwa [var_eq] at this

end Cert.Net

end
-- ==== Proof.Value.Precondition.lean ====
/- What the precondition says: the arguments but the last shift hold real numbers. -/
module

public import proofs.«01_k».proof.Defs
public import proofs.«01_k».proof.Proof.Value.Finite

@[expose] public section

set_option maxRecDepth 16384

noncomputable section

namespace Cert.Net

open Idealize.ShloMosaic Idealize.ShloMosaic.TcCoe

/-- A number whose absolute value is below infinity is a real number. -/
theorem real_of_abs {x : EReal} (h : Ideal.cmp .olt (max x (-x)) (Ideal.ofBits FTy.f32 0x7F800000#32) = 1#1) : ((x.toReal : ℝ) : EReal) = x := by
  have e : Ideal.ofBits FTy.f32 0x7F800000#32 = ⊤ := by simp [Ideal.ofBits, Ideal.ieee]
  rw [e] at h
  have h' : BitVec.ofBool (decide (max x (-x) < ⊤)) = 1#1 := h
  have hlt : max x (-x) < ⊤ := by
    by_contra hn
    rw [decide_eq_false hn] at h'
    exact absurd h' (by decide)
  refine EReal.coe_toReal ?_ ?_
  · rintro rfl; exact absurd hlt (by simp)
  · rintro rfl; exact absurd hlt (by simp)

/-- The comparison of an array's absolute values with infinity, at an index. -/
theorem real_at {s : Shape} {x : s.Idx → EReal} {h : Cert.Pre_finite_inputs.S_.BroadcastsInDim s ![]}
    (e : cmpf (F := Ideal) (φ := .f32) .olt (Host.absf (F := Ideal) (φ := .f32) x)
      (broadcastInDim s ![] h (constant (F := Ideal) Cert.Pre_finite_inputs.S_ .f32 0x7F800000#32)) = fun _ => 1#1) (i : s.Idx) :
    ((((x i).toReal : ℝ)) : EReal) = x i := by
  refine real_of_abs ?_
  have := congrFun e i
  have b : broadcastInDim s ![] h (constant (F := Ideal) Cert.Pre_finite_inputs.S_ .f32 0x7F800000#32) i = Ideal.ofBits FTy.f32 0x7F800000#32 :=
    broadcastInDim_apply _ h (constant (F := Ideal) Cert.Pre_finite_inputs.S_ .f32 0x7F800000#32) i (fun a => a.elim0) (fun a => a.elim0)
  rw [← b]
  exact this

/-- An array of real numbers holds a real function's values. -/
theorem exists1 {a : ℕ} {x : (⟨1, ![a]⟩ : Shape).Idx → EReal} (h : ∀ i, ((((x i).toReal : ℝ)) : EReal) = x i) : ∃ f, Is1 x f :=
  ⟨fun i => if h : i < a then (x (ix1 ⟨i, h⟩)).toReal else 0, fun i => by beta_reduce; rw [dif_pos i.isLt]; exact (h _).symm⟩
theorem exists2 {a b : ℕ} {x : (⟨2, ![a, b]⟩ : Shape).Idx → EReal} (h : ∀ i, ((((x i).toReal : ℝ)) : EReal) = x i) : ∃ f, Is2 x f :=
  ⟨fun i j => if h : i < a ∧ j < b then (x (ix2 ⟨i, h.1⟩ ⟨j, h.2⟩)).toReal else 0,
    fun i j => by beta_reduce; rw [dif_pos ⟨i.isLt, j.isLt⟩]; exact (h _).symm⟩
theorem exists3 {a b c : ℕ} {x : (⟨3, ![a, b, c]⟩ : Shape).Idx → EReal} (h : ∀ i, ((((x i).toReal : ℝ)) : EReal) = x i) : ∃ f, Is3 x f :=
  ⟨fun i j k => if h : i < a ∧ j < b ∧ k < c then (x (ix3 ⟨i, h.1⟩ ⟨j, h.2.1⟩ ⟨k, h.2.2⟩)).toReal else 0,
    fun i j k => by beta_reduce; rw [dif_pos ⟨i.isLt, j.isLt, k.isLt⟩]; exact (h _).symm⟩

/-- The real arguments of the network but its last shift. -/
structure Params where
  x : ℕ → ℕ → ℕ → ℝ
  A : ℕ → ℕ → ℕ → ℝ
  W0 : ℕ → ℕ → ℝ
  b0 : ℕ → ℝ
  g0 : ℕ → ℝ
  e0 : ℕ → ℝ
  W1 : ℕ → ℕ → ℝ
  b1 : ℕ → ℝ
  g1 : ℕ → ℝ
  e1 : ℕ → ℝ
  W2 : ℕ → ℕ → ℝ
  b2 : ℕ → ℝ
  g2 : ℕ → ℝ

/-- The activations of the three layers. -/
def Params.y0 (N : Params) : ℕ → ℕ → ℕ → ℝ := conv (loops N.A) N.x N.W0 N.b0
def Params.y1 (N : Params) : ℕ → ℕ → ℕ → ℝ := conv (loops N.A) (norm N.y0 N.g0 N.e0) N.W1 N.b1
def Params.y2 (N : Params) : ℕ → ℕ → ℕ → ℝ := conv (loops N.A) (norm N.y1 N.g1 N.e1) N.W2 N.b2

end Cert.Net

namespace Cert.KernelIdeal.Own

open Cert.KernelIdeal Cert.Net
open Idealize.ShloMosaic Idealize.ShloMosaic.TcCoe Idealize.SL.Sem

/-- A core's arguments but the last hold the real arguments. -/
structure RealArgs (V : Valuation τ sig (Elt Ideal)) (N : Params) : Prop where
  a0 : Is3 (V (Proc.devRef .tc main_arg0)) N.x
  a1 : Is3 (V (Proc.devRef .tc main_arg1)) N.A
  a2 : Is2 (V (Proc.devRef .tc main_arg2)) N.W0
  a3 : Is1 (V (Proc.devRef .tc main_arg3)) N.b0
  a4 : Is1 (V (Proc.devRef .tc main_arg4)) N.g0
  a5 : Is1 (V (Proc.devRef .tc main_arg5)) N.e0
  a6 : Is2 (V (Proc.devRef .tc main_arg6)) N.W1
  a7 : Is1 (V (Proc.devRef .tc main_arg7)) N.b1
  a8 : Is1 (V (Proc.devRef .tc main_arg8)) N.g1
  a9 : Is1 (V (Proc.devRef .tc main_arg9)) N.e1
  a10 : Is2 (V (Proc.devRef .tc main_arg10)) N.W2
  a11 : Is1 (V (Proc.devRef .tc main_arg11)) N.b2
  a12 : Is1 (V (Proc.devRef .tc main_arg12)) N.g2

/-- The precondition gives every core real arguments. -/
theorem realArgs_of_pre [Cert.Pre_finite_inputs.Facts] {m : (ℓ : Loc nD τ sig) → Buf (Elt Ideal) ℓ} (H : Cert.Pre_KernelIdeal_finite_inputs m) (c : Dev nD) :
    ∃ N, RealArgs (fun b => m (c, b)) N := by
  obtain ⟨h0, h1, h2, h3, h4, h5, h6, h7, h8, h9, h10, h11, h12⟩ := H c
  obtain ⟨x, k0⟩ := exists3 (real_at h0)
  obtain ⟨A, k1⟩ := exists3 (real_at h1)
  obtain ⟨W0, k2⟩ := exists2 (real_at h2)
  obtain ⟨b0, k3⟩ := exists1 (real_at h3)
  obtain ⟨g0, k4⟩ := exists1 (real_at h4)
  obtain ⟨e0, k5⟩ := exists1 (real_at h5)
  obtain ⟨W1, k6⟩ := exists2 (real_at h6)
  obtain ⟨b1, k7⟩ := exists1 (real_at h7)
  obtain ⟨g1, k8⟩ := exists1 (real_at h8)
  obtain ⟨e1, k9⟩ := exists1 (real_at h9)
  obtain ⟨W2, k10⟩ := exists2 (real_at h10)
  obtain ⟨b2, k11⟩ := exists1 (real_at h11)
  obtain ⟨g2, k12⟩ := exists1 (real_at h12)
  exact ⟨⟨x, A, W0, b0, g0, e0, W1, b1, g1, e1, W2, b2, g2⟩, ⟨k0, k1, k2, k3, k4, k5, k6, k7, k8, k9, k10, k11, k12⟩⟩

end Cert.KernelIdeal.Own
end
-- ==== Proof.Value.Blocks.lean ====
/- Windows of arrays that hold real numbers, and puts into them. -/
module

public import proofs.«01_k».proof.Proof.Value.Finite
public import Idealize.ShloMosaic.Lib.VecWindow

@[expose] public section

set_option maxRecDepth 16384

noncomputable section

namespace Cert.Net

open Idealize.ShloMosaic
open Idealize.ShloMosaic.VecWindow (put window)

/-- A window of an array of reals holds the reals shifted. -/
theorem Is2.window {a b a' b' o0 o1 : ℕ} {x : (⟨2, ![a, b]⟩ : Shape).Idx → EReal} {f : ℕ → ℕ → ℝ} (hx : Is2 x f) (off : Fin 2 → ℕ)
    (ho : off = ![o0, o1]) (inb : ∀ d, off d + (![a', b'] : Fin 2 → ℕ) d ≤ (⟨2, ![a, b]⟩ : Shape).size d) :
    Is2 (VecWindow.window (s := ⟨2, ![a, b]⟩) x off ![a', b'] inb) (fun i j => f (o0 + i) (o1 + j)) := by
  subst ho
  intro i j
  have h0 : o0 + a' ≤ a := inb 0
  have h1 : o1 + b' ≤ b := inb 1
  have e : (Rect.unit (s := ⟨2, ![a, b]⟩) ![o0, o1] ![a', b'] inb).emb (ix2 i j)
      = ix2 (⟨o0 + i.val, by omega⟩ : Fin a) (⟨o1 + j.val, by omega⟩ : Fin b) :=
    funext fun d => match d with
      | ⟨0, _⟩ => Fin.ext (show o0 + 1 * i.val = o0 + i.val by omega)
      | ⟨1, _⟩ => Fin.ext (show o1 + 1 * j.val = o1 + j.val by omega)
  show x _ = _
  rw [e]
  exact hx _ _

theorem Is3.window {a b c a' b' c' o0 o1 o2 : ℕ} {x : (⟨3, ![a, b, c]⟩ : Shape).Idx → EReal} {f : ℕ → ℕ → ℕ → ℝ} (hx : Is3 x f)
    (off : Fin 3 → ℕ) (ho : off = ![o0, o1, o2]) (inb : ∀ d, off d + (![a', b', c'] : Fin 3 → ℕ) d ≤ (⟨3, ![a, b, c]⟩ : Shape).size d) :
    Is3 (VecWindow.window (s := ⟨3, ![a, b, c]⟩) x off ![a', b', c'] inb) (fun i j k => f (o0 + i) (o1 + j) (o2 + k)) := by
  subst ho
  intro i j k
  have h0 : o0 + a' ≤ a := inb 0
  have h1 : o1 + b' ≤ b := inb 1
  have h2 : o2 + c' ≤ c := inb 2
  have e : (Rect.unit (s := ⟨3, ![a, b, c]⟩) ![o0, o1, o2] ![a', b', c'] inb).emb (ix3 i j k)
      = ix3 (⟨o0 + i.val, by omega⟩ : Fin a) (⟨o1 + j.val, by omega⟩ : Fin b) (⟨o2 + k.val, by omega⟩ : Fin c) :=
    funext fun d => match d with
      | ⟨0, _⟩ => Fin.ext (show o0 + 1 * i.val = o0 + i.val by omega)
      | ⟨1, _⟩ => Fin.ext (show o1 + 1 * j.val = o1 + j.val by omega)
      | ⟨2, _⟩ => Fin.ext (show o2 + 1 * k.val = o2 + k.val by omega)
  show x _ = _
  rw [e]
  exact hx _ _ _

/-- Inside the window a put leaves the payload. -/
theorem put2_in {a b a' b' o0 o1 : ℕ} (x : (⟨2, ![a, b]⟩ : Shape).Idx → EReal) (off : Fin 2 → ℕ) (ho : off = ![o0, o1])
    (w : (⟨2, ![a', b']⟩ : Shape).Idx → EReal) (i : Fin a) (j : Fin b) (i' : Fin a') (j' : Fin b') (hi : i.val = o0 + i'.val)
    (hj : j.val = o1 + j'.val) : VecWindow.put (s := ⟨2, ![a, b]⟩) x off ![a', b'] w (ix2 i j) = w (ix2 i' j') := by
  subst ho
  have m : ∀ d : Fin 2, (![o0, o1] : Fin 2 → ℕ) d ≤ (ix2 i j d).val ∧ (ix2 i j d).val < (![o0, o1] : Fin 2 → ℕ) d + (![a', b'] : Fin 2 → ℕ) d :=
    fun d => match d with
      | ⟨0, _⟩ => ⟨by show o0 ≤ i.val; omega, by show i.val < o0 + a'; omega⟩
      | ⟨1, _⟩ => ⟨by show o1 ≤ j.val; omega, by show j.val < o1 + b'; omega⟩
  unfold VecWindow.put
  rw [dif_pos m]
  exact congrArg w (funext fun d => match d with
    | ⟨0, _⟩ => Fin.ext (show i.val - o0 = i'.val by omega)
    | ⟨1, _⟩ => Fin.ext (show j.val - o1 = j'.val by omega))

theorem put3_in {a b c a' b' c' o0 o1 o2 : ℕ} (x : (⟨3, ![a, b, c]⟩ : Shape).Idx → EReal) (off : Fin 3 → ℕ) (ho : off = ![o0, o1, o2])
    (w : (⟨3, ![a', b', c']⟩ : Shape).Idx → EReal) (i : Fin a) (j : Fin b) (k : Fin c) (i' : Fin a') (j' : Fin b') (k' : Fin c')
    (hi : i.val = o0 + i'.val) (hj : j.val = o1 + j'.val) (hk : k.val = o2 + k'.val) :
    VecWindow.put (s := ⟨3, ![a, b, c]⟩) x off ![a', b', c'] w (ix3 i j k) = w (ix3 i' j' k') := by
  subst ho
  have m : ∀ d : Fin 3, (![o0, o1, o2] : Fin 3 → ℕ) d ≤ (ix3 i j k d).val
      ∧ (ix3 i j k d).val < (![o0, o1, o2] : Fin 3 → ℕ) d + (![a', b', c'] : Fin 3 → ℕ) d :=
    fun d => match d with
      | ⟨0, _⟩ => ⟨by show o0 ≤ i.val; omega, by show i.val < o0 + a'; omega⟩
      | ⟨1, _⟩ => ⟨by show o1 ≤ j.val; omega, by show j.val < o1 + b'; omega⟩
      | ⟨2, _⟩ => ⟨by show o2 ≤ k.val; omega, by show k.val < o2 + c'; omega⟩
  unfold VecWindow.put
  rw [dif_pos m]
  exact congrArg w (funext fun d => match d with
    | ⟨0, _⟩ => Fin.ext (show i.val - o0 = i'.val by omega)
    | ⟨1, _⟩ => Fin.ext (show j.val - o1 = j'.val by omega)
    | ⟨2, _⟩ => Fin.ext (show k.val - o2 = k'.val by omega))

/-- Outside the window, along some axis, a put leaves what was there. -/
theorem put3_out {a b c a' b' c' o0 o1 o2 : ℕ} (x : (⟨3, ![a, b, c]⟩ : Shape).Idx → EReal) (off : Fin 3 → ℕ) (ho : off = ![o0, o1, o2])
    (w : (⟨3, ![a', b', c']⟩ : Shape).Idx → EReal) (i : Fin a) (j : Fin b) (k : Fin c)
    (h : ¬ ((o0 ≤ i.val ∧ i.val < o0 + a') ∧ (o1 ≤ j.val ∧ j.val < o1 + b') ∧ (o2 ≤ k.val ∧ k.val < o2 + c'))) :
    VecWindow.put (s := ⟨3, ![a, b, c]⟩) x off ![a', b', c'] w (ix3 i j k) = x (ix3 i j k) := by
  subst ho
  unfold VecWindow.put
  rw [dif_neg fun m => h ⟨m 0, m 1, m 2⟩]

theorem put2_out {a b a' b' o0 o1 : ℕ} (x : (⟨2, ![a, b]⟩ : Shape).Idx → EReal) (off : Fin 2 → ℕ) (ho : off = ![o0, o1])
    (w : (⟨2, ![a', b']⟩ : Shape).Idx → EReal) (i : Fin a) (j : Fin b)
    (h : ¬ ((o0 ≤ i.val ∧ i.val < o0 + a') ∧ (o1 ≤ j.val ∧ j.val < o1 + b'))) :
    VecWindow.put (s := ⟨2, ![a, b]⟩) x off ![a', b'] w (ix2 i j) = x (ix2 i j) := by
  subst ho
  unfold VecWindow.put
  rw [dif_neg fun m => h ⟨m 0, m 1⟩]

end Cert.Net

end
-- ==== Proof.Value.Point0.lean ====
/- What a point of the first kernel computes, when its blocks hold real numbers. -/
module

public import proofs.«01_k».proof.Proof.Value.Blocks
public import proofs.«01_k».proof.Proof.KernelIdeal.Step0

@[expose] public section

set_option maxRecDepth 16384

noncomputable section

namespace Cert.KernelIdeal.Own

open Cert.KernelIdeal Cert.KernelIdeal.Gen Cert.Net
open Idealize.ShloMosaic Idealize.ShloMosaic.TcCoe

/-- The projected features. -/
theorem pay9_real {x : Vec Ideal S1x4096x128 .f32} {W : Vec Ideal S128x128 .f32} {f : ℕ → ℕ → ℕ → ℝ} {w : ℕ → ℕ → ℝ} {b : ℕ}
    (hx : Is3 x (fun _ => f b)) (hW : Is2 W w) : Is2 (k0_pay9 x W) (proj f w b) := by
  intro i j
  pointwise [k0_pay9]
  unfold proj
  rw [coe_sum]
  refine Finset.sum_congr rfl fun k _ => ?_
  rw [EReal.coe_mul]
  exact congrArg₂ (· * ·) (hx 0 i k) (hW k j)

/-- The aggregated features of a row tile: the sum over the neighbours, with the node's own weight exchanged for a one. -/
theorem pay13_real {a : Vec Ideal S1x1024x4096 .f32} {h : Vec Ideal S4096x128 .f32} {d : Vec Ideal S1x1024x1024 .f32}
    {ht : Vec Ideal S1024x128 .f32} {A : ℕ → ℕ → ℕ → ℝ} {p : ℕ → ℕ → ℕ → ℝ} {b o : ℕ} (ho : o + 1024 ≤ 4096)
    (ha : Is3 a (fun _ r m => A b (o + r) m)) (hh : Is2 h (p b)) (hd : Is3 d (fun _ r q => A b (o + r) (o + q)))
    (hht : Is2 ht (fun r c => p b (o + r) c)) : Is2 (k0_pay13 a h d ht) (fun r c => aggr (loops A) p b (o + r) c) := by
  intro i j
  pointwise [k0_pay13, k0_pay10, k0_pay11, k0_pay12]
  have hi : i.val < 1024 := i.isLt
  have e : (∑ x : Fin 1024, Scalar.select (IntOp.cmpi CmpIPredicate.eq (BitVec.ofNat 32 i.val) (BitVec.ofNat 32 x.val)) (d (ix3 0 i x)) 0)
      = ((A b (o + i.val) (o + i.val) : ℝ) : EReal) := by
    have t : ∀ x : Fin 1024, Scalar.select (IntOp.cmpi CmpIPredicate.eq (BitVec.ofNat 32 i.val) (BitVec.ofNat 32 x.val)) (d (ix3 0 i x)) 0
        = if i = x then ((A b (o + i.val) (o + x.val) : ℝ) : EReal) else 0 := fun x => by
      rw [select_eq (by omega) (by have := x.isLt; omega), hd 0 i x]
      exact if_congr Fin.ext_iff.symm rfl rfl
    rw [Finset.sum_congr rfl fun x _ => t x, Finset.sum_ite_eq, if_pos (Finset.mem_univ _)]
  have s : (∑ x : Fin 4096, a (ix3 0 i x) * h (ix2 x j)) = ((aggr A p b (o + i.val) j.val : ℝ) : EReal) := by
    unfold aggr
    rw [coe_sum]
    refine Finset.sum_congr rfl fun x _ => ?_
    rw [EReal.coe_mul]
    exact congrArg₂ (· * ·) (ha 0 i x) (hh x j)
  rw [← aggr_loops A p b (o + i.val) j.val (by omega), EReal.coe_add, EReal.coe_mul, EReal.coe_sub]
  refine congrArg₂ (· + ·) s (congrArg₂ (· * ·) (congrArg₂ (· - ·) rfl e) (hht i j))

/-- A row tile's activations. -/
theorem pay3_real {a : FVec Ideal S1024x128 .f32} {b : Vec Ideal S1x128 .f32} {f : ℕ → ℕ → ℝ} {β : ℕ → ℝ} (ha : Is2 a f)
    (hb : Is2 b (fun _ => β)) : Is2 (k0_pay3 a b) (fun r c => max (f r c + β c) 0) := by
  intro i j
  pointwise [k0_pay3]
  rw [coe_max, EReal.coe_add]
  exact congrArg₂ max (congrArg₂ (· + ·) (ha i j) (hb 0 j)) rfl

theorem pay4_real {a : FVec Ideal S1024x128 .f32} {b : Vec Ideal S1x128 .f32} {f : ℕ → ℕ → ℝ} {β : ℕ → ℝ} (ha : Is2 a f)
    (hb : Is2 b (fun _ => β)) : Is3 (k0_pay4 a b) (fun _ r c => max (f r c + β c) 0) := by
  intro i j k
  pointwise [k0_pay4]
  exact pay3_real ha hb j k

/-- The running sum with a row tile's activations added. -/
theorem pay5_real {a : FVec Ideal S1024x128 .f32} {b s : Vec Ideal S1x128 .f32} {f y : ℕ → ℕ → ℝ} {β σ : ℕ → ℝ} (ha : Is2 a f)
    (hb : Is2 b (fun _ => β)) (hs : Is2 s (fun _ => σ)) (hy : ∀ r c, max (f r c + β c) 0 = y r c) :
    Is2 (k0_pay5 a b s) (fun _ c => σ c + ∑ r : Fin 1024, y r.val c) := by
  intro i j
  pointwise [k0_pay5]
  rw [EReal.coe_add, coe_sum]
  refine congrArg₂ (· + ·) (hs i j) (Finset.sum_congr rfl fun r _ => ?_)
  rw [← hy]
  exact pay3_real ha hb r j

/-- The running sum of squares with a row tile's activations added. -/
theorem pay6_real {a : FVec Ideal S1024x128 .f32} {b s : Vec Ideal S1x128 .f32} {f y : ℕ → ℕ → ℝ} {β σ : ℕ → ℝ} (ha : Is2 a f)
    (hb : Is2 b (fun _ => β)) (hs : Is2 s (fun _ => σ)) (hy : ∀ r c, max (f r c + β c) 0 = y r c) :
    Is2 (k0_pay6 a b s) (fun _ c => σ c + ∑ r : Fin 1024, y r.val c * y r.val c) := by
  intro i j
  pointwise [k0_pay6]
  rw [EReal.coe_add, coe_sum]
  refine congrArg₂ (· + ·) (hs i j) (Finset.sum_congr rfl fun r _ => ?_)
  rw [EReal.coe_mul, ← hy]
  exact congrArg₂ (· * ·) (pay3_real ha hb r j) (pay3_real ha hb r j)

theorem pay7_real : Is2 (k0_pay7 (F := Ideal)) (fun _ _ => 0) := by
  intro i j
  pointwise [k0_pay7]
  rfl

theorem pay8_real : Is2 (k0_pay8 (F := Ideal)) (fun _ _ => 0) := by
  intro i j
  pointwise [k0_pay8]
  rfl

/-- The adjacency's row tile in the narrow format. -/
theorem pay1_real {a : Vec Ideal S1x1024x4096 .f32} {f : ℕ → ℕ → ℕ → ℝ} (ha : Is3 a (fun _ => f 0)) : Is3 (k0_pay1 (k0_pay14 a)) (fun _ => f 0) := by
  intro i j k
  pointwise [k0_pay1, k0_pay14, k0_pay10]
  exact ha _ j k

/-- The diagonal block with ones on its diagonal. -/
theorem pay2_real {d : Vec Ideal S1x1024x1024 .f32} {A : ℕ → ℕ → ℕ → ℝ} {b o : ℕ} (hd : Is3 d (fun _ r q => A b (o + r) (o + q))) :
    Is3 (k0_pay2 (k0_pay11 d) k0_pay12) (fun _ r q => loops A b (o + r) (o + q)) := by
  intro i j k
  pointwise [k0_pay2, k0_pay11, k0_pay12]
  rw [select_eq (by have := j.isLt; omega) (by have := k.isLt; omega)]
  unfold loops
  by_cases h : j.val = k.val
  · rw [if_pos h, if_pos (congrArg (o + ·) h)]; rfl
  · rw [if_neg h, if_neg fun e => h (Nat.add_left_cancel e)]; exact hd 0 j k

end Cert.KernelIdeal.Own

end
-- ==== Proof.Value.Region0.lean ====
/- The arrays that the first kernel leaves, when the arrays it finds hold real numbers. -/
module

public import proofs.«01_k».proof.Proof.Value.Point0
public import proofs.«01_k».proof.Proof.KernelIdeal.Dat0

@[expose] public section

set_option maxRecDepth 16384

noncomputable section

namespace Cert.KernelIdeal.Own

open Cert.KernelIdeal Cert.KernelIdeal.Gen Cert.Net
open Idealize.ShloMosaic Idealize.ShloMosaic.TcCoe

/-- Where each window's block lies. -/
theorem idx0 : ∀ t : Fin cfg0.N, win0_0.index t = ![t.val / 4, 0, 0] ∧ win0_1.index t = ![t.val / 4, t.val % 4, 0] ∧ win0_2.index t = ![0, 0]
    ∧ win0_3.index t = ![0, 0] ∧ win0_4.index t = ![t.val / 4, t.val % 4, 0] ∧ win0_5.index t = ![0, 0] ∧ win0_6.index t = ![0, 0]
    ∧ win0_7.index t = ![t.val / 4, t.val % 4, 0] := (by decide +kernel : ∀ t : Fin grid0.N, _)

theorem offs0 : ∀ t : Fin grid0.N, k0_off1 (grid0.coords t) = ![0, 0, t.val % 4 * 1024] ∧ k0_off2 (grid0.coords t) = ![t.val % 4 * 1024, 0]
    ∧ (cond01 (grid0.coords t) ↔ t.val = 0) ∧ (cond02 (grid0.coords t) ↔ t.val % 4 = 0) := by decide +kernel

variable {V : Dev nD → Valuation τ sig (Elt Ideal)} {c : Dev nD} {x A : ℕ → ℕ → ℕ → ℝ} {W : ℕ → ℕ → ℝ} {β : ℕ → ℝ}

/-- What the region finds. -/
structure Found0 (V : Dev nD → Valuation τ sig (Elt Ideal)) (c : Dev nD) (x A : ℕ → ℕ → ℕ → ℝ) (W : ℕ → ℕ → ℝ) (β : ℕ → ℝ) : Prop where
  x : Is3 (V c (Proc.devRef .tc main_arg0)) x
  A : Is3 (V c (Proc.devRef .tc main_arg1)) A
  W : Is2 (V c (Proc.devRef .tc main_arg2)) W
  β : Is2 (V c (Proc.devRef .tc main_v0)) (fun _ => β)

/-- The blocks of a point hold the arrays' parts. -/
theorem in0_x (H : Found0 V c x A W β) (t : Fin cfg0.N) : Is3 (in0 V c t).x (fun _ => x (t.val / 4)) := by
  intro i j k
  show iblk0 V c 0 t (ix3 i j k) = _
  unfold iblk0
  blk_simp
  refine (H.x.at _).trans ?_
  blk_simp [idx0 t]

theorem in0_adj (H : Found0 V c x A W β) (t : Fin cfg0.N) : Is3 (in0 V c t).adj (fun _ r m => A (t.val / 4) (t.val % 4 * 1024 + r) m) := by
  intro i j k
  show iblk0 V c 1 t (ix3 i j k) = _
  unfold iblk0
  blk_simp
  refine (H.A.at _).trans ?_
  blk_simp [idx0 t]

theorem in0_W (H : Found0 V c x A W β) (t : Fin cfg0.N) : Is2 (in0 V c t).W W := by
  intro i j
  show iblk0 V c 2 t (ix2 i j) = _
  unfold iblk0
  blk_simp
  refine (H.W.at _).trans ?_
  blk_simp [idx0 t]

theorem in0_b (H : Found0 V c x A W β) (t : Fin cfg0.N) : Is2 (in0 V c t).b (fun _ => β) := by
  intro i j
  show iblk0 V c 3 t (ix2 i j) = _
  unfold iblk0
  blk_simp
  refine (H.β.at _).trans ?_
  blk_simp [idx0 t]

/-- What the carried state holds before point `n`. -/
structure Carried0 (x A : ℕ → ℕ → ℕ → ℝ) (W : ℕ → ℕ → ℝ) (β : ℕ → ℝ) (n : ℕ) (S : St0 Ideal) : Prop where
  h : n % 4 ≠ 0 → Is2 S.h (proj x W (n / 4))
  s : n ≠ 0 → Is2 S.s (fun _ k => ∑ p ∈ Finset.range n, ∑ r : Fin 1024, conv (loops A) x W β (p / 4) (p % 4 * 1024 + r.val) k)
  ss : n ≠ 0 → Is2 S.ss (fun _ k => ∑ p ∈ Finset.range n, ∑ r : Fin 1024, conv (loops A) x W β (p / 4) (p % 4 * 1024 + r.val) k * conv (loops A) x W β (p / 4) (p % 4 * 1024 + r.val) k)

theorem hN0_real (H : Found0 V c x A W β) (t : Fin cfg0.N) {S : St0 Ideal} (hS : Carried0 x A W β t.val S) :
    Is2 (hN0 (grid0.coords t) (in0 V c t) S) (proj x W (t.val / 4)) := by
  unfold hN0
  split_ifs with h2
  · exact pay9_real (in0_x H t) (in0_W H t)
  · exact hS.h fun h => h2 ((offs0 t).2.2.2.mpr h)

theorem diag0_real (H : Found0 V c x A W β) (t : Fin cfg0.N) :
    Is3 (diag0 (grid0.coords t) (in0 V c t)) (fun _ r q => A (t.val / 4) (t.val % 4 * 1024 + r) (t.val % 4 * 1024 + q)) := by
  have := (in0_adj H t).window (k0_off1 (grid0.coords t)) (offs0 t).1 (k0_off1_inb (grid0.coords t))
  simp only [Nat.zero_add] at this
  exact this

theorem agg0_real (H : Found0 V c x A W β) (t : Fin cfg0.N) {S : St0 Ideal} (hS : Carried0 x A W β t.val S) :
    Is2 (agg0 (grid0.coords t) (in0 V c t) S) (fun r k => aggr (loops A) (proj x W) (t.val / 4) (t.val % 4 * 1024 + r) k) := by
  have w := (hN0_real H t hS).window (k0_off2 (grid0.coords t)) (offs0 t).2.1 (k0_off2_inb (grid0.coords t))
  simp only [Nat.zero_add] at w
  exact pay13_real (by omega) (in0_adj H t) (hN0_real H t hS) (diag0_real H t) w

/-- A point keeps to it. -/
theorem step0_real (H : Found0 V c x A W β) (t : Fin cfg0.N) {S : St0 Ideal} (hS : Carried0 x A W β t.val S) :
    Carried0 x A W β (t.val + 1) (stepN0 (grid0.coords t) (in0 V c t) S) where
  h hn := by
    rw [show (t.val + 1) / 4 = t.val / 4 by omega]
    exact hN0_real H t hS
  s _ := by
    simp only [Finset.sum_range_succ]
    refine pay5_real (agg0_real H t hS) (in0_b H t) ?_ (fun _ _ => rfl)
    unfold sZ0
    split_ifs with h1
    · rw [(offs0 t).2.2.1.mp h1]; exact pay7_real
    · exact hS.s fun h => h1 ((offs0 t).2.2.1.mpr h)
  ss _ := by
    simp only [Finset.sum_range_succ]
    refine pay6_real (agg0_real H t hS) (in0_b H t) ?_ (fun _ _ => rfl)
    unfold ssZ0
    split_ifs with h1
    · rw [(offs0 t).2.2.1.mp h1]; exact pay8_real
    · exact hS.ss fun h => h1 ((offs0 t).2.2.1.mpr h)

theorem carried0 (H : Found0 V c x A W β) : ∀ n : ℕ, n ≤ cfg0.N → Carried0 x A W β n (stAt0 V c n)
  | 0, _ => ⟨fun h => absurd rfl h, fun h => absurd rfl h, fun h => absurd rfl h⟩
  | n + 1, h => by
    rw [stAt0_succ V c ⟨n, h⟩]
    exact step0_real H ⟨n, h⟩ (carried0 H n (Nat.le_of_succ_le h))

/-- The activations' array. -/
theorem out0_y (H : Found0 V c x A W β) : Is3 ((dat0 V c).arrAt 4 cfg0.N) (conv (loops A) x W β) := by
  intro i j k
  refine (dat0 V c).arrAt_forall_of_covers 4 (fun i v => v = (conv (loops A) x W β (i 0).val (i 1).val (i 2).val : EReal)) (by decide +kernel) (fun t hf y => ?_) (ix3 i j k)
  blk_simp
  rw [after0_4]
  refine ((pay4_real (agg0_real H t (carried0 H t.val t.isLt.le)) (in0_b H t)).at y).trans ?_
  blk_simp [idx0 t]
  rfl

/-- The last point is the one that writes the sums back. -/
theorem last0 : ∀ t : Fin cfg0.N, ((cfg0.win 5).flush t = true → t.val = 7) ∧ ((cfg0.win 6).flush t = true → t.val = 7) :=
  (by decide +kernel : ∀ t : Fin grid0.N, _)

/-- The array of the channels' sums. -/
theorem out0_s (H : Found0 V c x A W β) : Is2 ((dat0 V c).arrAt 5 cfg0.N) (fun _ => total (conv (loops A) x W β)) := by
  intro i j
  refine (dat0 V c).arrAt_forall_of_covers 5 (fun i v => v = (total (conv (loops A) x W β) (i 1).val : EReal)) (by decide +kernel) (fun t hf y => ?_) (ix2 i j)
  blk_simp
  rw [after0_5]
  refine (((carried0 H (t.val + 1) t.isLt).s (Nat.succ_ne_zero _)).at y).trans ?_
  rw [(last0 t).1 hf, sum_tiles fun b n => conv (loops A) x W β b n (y 1).val]
  blk_simp [idx0 t]
  rfl

/-- The array of the channels' sums of squares. -/
theorem out0_ss (H : Found0 V c x A W β) : Is2 ((dat0 V c).arrAt 6 cfg0.N) (fun _ => total fun b n k => conv (loops A) x W β b n k * conv (loops A) x W β b n k) := by
  intro i j
  refine (dat0 V c).arrAt_forall_of_covers 6 (fun i v => v = (total (fun b n k => conv (loops A) x W β b n k * conv (loops A) x W β b n k) (i 1).val : EReal)) (by decide +kernel) (fun t hf y => ?_) (ix2 i j)
  blk_simp
  rw [after0_6]
  refine (((carried0 H (t.val + 1) t.isLt).ss (Nat.succ_ne_zero _)).at y).trans ?_
  rw [(last0 t).2 hf, sum_tiles fun b n => conv (loops A) x W β b n (y 1).val * conv (loops A) x W β b n (y 1).val]
  blk_simp [idx0 t]
  rfl

/-- A row tile of the adjacency with its loops. -/
theorem adjN0_real (H : Found0 V c x A W β) (t : Fin cfg0.N) :
    Is3 (adjN0 (grid0.coords t) (in0 V c t)) (fun _ r m => loops A (t.val / 4) (t.val % 4 * 1024 + r) m) := by
  intro i j k
  have hi : i.val < 1 := i.isLt
  have hj : j.val < 1024 := j.isLt
  have hk : k.val < 4096 := k.isLt
  unfold adjN0
  by_cases h : t.val % 4 * 1024 ≤ k.val ∧ k.val < t.val % 4 * 1024 + 1024
  · refine (put3_in _ _ (offs0 t).1 _ i j k i j ⟨k.val - t.val % 4 * 1024, by omega⟩ (Nat.zero_add _).symm (Nat.zero_add _).symm (by show k.val = t.val % 4 * 1024 + (k.val - t.val % 4 * 1024); omega)).trans ?_
    refine (pay2_real (diag0_real H t) _ _ _).trans ?_
    show (loops A _ _ (t.val % 4 * 1024 + (k.val - t.val % 4 * 1024)) : EReal) = _
    rw [show t.val % 4 * 1024 + (k.val - t.val % 4 * 1024) = k.val by omega]
  · refine (put3_out _ _ (offs0 t).1 _ i j k fun m => h m.2.2).trans ?_
    refine (pay1_real (f := fun _ r m => A (t.val / 4) (t.val % 4 * 1024 + r) m) (in0_adj H t) _ _ _).trans ?_
    unfold loops
    beta_reduce
    rw [if_neg (by omega)]

/-- The array of the adjacency with its loops. -/
theorem out0_adj (H : Found0 V c x A W β) : Is3 ((dat0 V c).arrAt 7 cfg0.N) (loops A) := by
  intro i j k
  refine (dat0 V c).arrAt_forall_of_covers 7 (fun i v => v = (loops A (i 0).val (i 1).val (i 2).val : EReal)) (by decide +kernel) (fun t hf y => ?_) (ix3 i j k)
  blk_simp
  rw [after0_7]
  refine ((adjN0_real H t).at y).trans ?_
  blk_simp [idx0 t]

end Cert.KernelIdeal.Own

end
-- ==== Proof.Value.Point1.lean ====
/- What a point of the fused kernel computes, when its blocks and the state it finds hold real numbers. -/
module

public import proofs.«01_k».proof.Proof.Value.Blocks
public import proofs.«01_k».proof.Proof.KernelIdeal.Step1

@[expose] public section

set_option maxRecDepth 16384

noncomputable section

namespace Cert.KernelIdeal.Own

open Cert.KernelIdeal Cert.KernelIdeal.Gen Cert.Net
open Idealize.ShloMosaic Idealize.ShloMosaic.TcCoe

/-- The normalised activations of the layer before, projected. -/
theorem norm_proj_real {s q g be : Vec Ideal S1x128 .f32} {y : Vec Ideal S1x4096x128 .f32} {W : Vec Ideal S128x128 .f32}
    {f : ℕ → ℕ → ℕ → ℝ} {γ β : ℕ → ℝ} {w : ℕ → ℕ → ℝ} {b : ℕ} (hs : Is2 s (fun _ => total f))
    (hq : Is2 q (fun _ => total fun b n c => f b n c * f b n c)) (hg : Is2 g (fun _ => γ)) (hbe : Is2 be (fun _ => β))
    (hy : Is3 y (fun _ => f b)) (hW : Is2 W w) : Is2 (k1_pay8 s q g be y W) (proj (norm f γ β) w b) := by
  intro i j
  pointwise [k1_pay8]
  unfold proj
  rw [coe_sum]
  refine Finset.sum_congr rfl fun k _ => ?_
  rw [EReal.coe_mul]
  refine congrArg₂ (· * ·) ?_ (hW k j)
  rw [hs 0 k, hq 0 k, hg 0 k, hbe 0 k, hy 0 i k, scale_real _ _ _ (sums_pos f k.val), lit_8192th, norm_real]
  rw [← EReal.coe_mul, ← EReal.coe_mul, ← EReal.coe_mul, ← EReal.coe_sub, ← EReal.coe_add]

theorem pay9_eq (s q g be : Vec Ideal S1x128 .f32) (y : Vec Ideal S1x4096x128 .f32) (W : Vec Ideal S128x128 .f32) (j : S4096x128.Idx) :
    k1_pay9 s q g be y W j = k1_pay8 s q g be y W j := by
  pointwise [k1_pay9, k1_pay8]
theorem pay10_eq (s q g be : Vec Ideal S1x128 .f32) (y : Vec Ideal S1x4096x128 .f32) (W : Vec Ideal S128x128 .f32) (j : S4096x128.Idx) :
    k1_pay10 s q g be y W j = k1_pay8 s q g be y W j := by
  pointwise [k1_pay10, k1_pay9, k1_pay8]
theorem pay11_eq (s q g be : Vec Ideal S1x128 .f32) (y : Vec Ideal S1x4096x128 .f32) (W : Vec Ideal S128x128 .f32) (j : S4096x128.Idx) :
    k1_pay11 s q g be y W j = k1_pay8 s q g be y W j := by
  pointwise [k1_pay11, k1_pay8]
theorem pay13_eq (s q g be : Vec Ideal S1x128 .f32) (y : Vec Ideal S1x4096x128 .f32) (W : Vec Ideal S128x128 .f32) (j : S4096x128.Idx) :
    k1_pay13 s q g be y W j = k1_pay8 s q g be y W j := by
  pointwise [k1_pay13, k1_pay12, k1_pay11, k1_pay8]
theorem pay14_eq (s q g be : Vec Ideal S1x128 .f32) (y : Vec Ideal S1x4096x128 .f32) (W : Vec Ideal S128x128 .f32) (j : S4096x128.Idx) :
    k1_pay14 s q g be y W j = k1_pay8 s q g be y W j := by
  pointwise [k1_pay14, k1_pay12, k1_pay11, k1_pay8]

/-- What the narrow half leaves over is nothing. -/
theorem pay18_real {p : FVec Ideal S4096x128 .f32} {q : FVec Ideal S4096x128 .bf16} {f : ℕ → ℕ → ℝ} (hp : Is2 p f)
    (hq : ∀ j, q j = p j) : Is2 (k1_pay18 p q) (fun _ _ => 0) := by
  intro i j
  pointwise [k1_pay18]
  rw [hq, hp i j, ← EReal.coe_sub, sub_self]

theorem pay19_real {p q : FVec Ideal S4096x128 .f32} {f : ℕ → ℕ → ℝ} (hp : Is2 p f) (hq : ∀ j, q j = p j) :
    Is2 (k1_pay19 p q) (fun _ _ => 0) := by
  intro i j
  pointwise [k1_pay19]
  rw [hq, hp i j, ← EReal.coe_sub, sub_self]

/-- The left half holds the features, the right half nothing. -/
def IsHalves (h : Vec Ideal S4096x256 .bf16) (f : ℕ → ℕ → ℝ) : Prop := Is2 h (fun i j => if j < 128 then f i j else 0)

theorem halves_real {p q : Vec Ideal S4096x128 .bf16} {f : ℕ → ℕ → ℝ} (hp : Is2 p f) (hq : Is2 q (fun _ _ => 0)) : IsHalves (halves p q) f := by
  intro i j
  unfold halves
  by_cases h : j.val < 128
  · exact ((dif_pos h).trans (hp _ _)).trans (congrArg Real.toEReal (if_pos h).symm)
  · exact ((dif_neg h).trans (hq _ _)).trans (congrArg Real.toEReal (if_neg h).symm)

/-- The aggregated features of a row tile. -/
theorem pay20_real {a : Vec Ideal S1x1024x4096 .bf16} {h : Vec Ideal S4096x256 .bf16} {A p : ℕ → ℕ → ℕ → ℝ} {b o : ℕ}
    (ha : Is3 a (fun _ r m => A b (o + r) m)) (hh : IsHalves h (p b)) : Is2 (k1_pay20 a h) (fun r c => aggr A p b (o + r) c) := by
  intro i j
  have hj : j.val < 128 := j.isLt
  pointwise [k1_pay20]
  have l : ∀ x : Fin 4096, h (ix2 x (⟨j.val, by omega⟩ : Fin 256)) = ((p b x.val j.val : ℝ) : EReal) := fun x =>
    (hh x _).trans (congrArg Real.toEReal (if_pos hj))
  have r : ∀ x : Fin 4096, h (ix2 x (⟨128 + j.val, by omega⟩ : Fin 256)) = ((0 : ℝ) : EReal) := fun x =>
    (hh x _).trans (congrArg Real.toEReal (if_neg (by show ¬ 128 + j.val < 128; omega)))
  have el : (∑ x : Fin 4096, a (ix3 0 i x) * h (ix2 x (⟨j.val, by omega⟩ : Fin 256))) = ((aggr A p b (o + i.val) j.val : ℝ) : EReal) := by
    unfold aggr
    rw [coe_sum]
    refine Finset.sum_congr rfl fun x _ => ?_
    rw [l, EReal.coe_mul]
    exact congrArg (· * _) (ha 0 i x)
  have er : (∑ x : Fin 4096, a (ix3 0 i x) * h (ix2 x (⟨128 + j.val, by omega⟩ : Fin 256))) = 0 :=
    Finset.sum_eq_zero fun x _ => by rw [r, EReal.coe_zero, mul_zero]
  exact (congrArg₂ (· + ·) el er).trans (add_zero _)

/-- A row tile's activations, with the bias that the layer's word selects. -/
theorem act_real {a : FVec Ideal S1024x128 .f32} {l : BitVec 1} {b1 b2 : Vec Ideal S1x128 .f32} {f : ℕ → ℕ → ℝ} {β : ℕ → ℝ} (ha : Is2 a f)
    (hb : ∀ k : Fin 128, Scalar.select l (b1 (ix2 0 k)) (b2 (ix2 0 k)) = ((β k.val : ℝ) : EReal)) :
    Is2 (k1_pay1 a l b1 b2) (fun r c => max (f r c + β c) 0) := by
  intro i j
  pointwise [k1_pay1]
  rw [coe_max, EReal.coe_add]
  exact congrArg₂ max (congrArg₂ (· + ·) (ha i j) (hb j)) rfl

section Act

variable {a : FVec Ideal S1024x128 .f32} {l : BitVec 1} {b1 b2 s : Vec Ideal S1x128 .f32} {f : ℕ → ℕ → ℝ} {σ : ℕ → ℝ}

theorem act2_real (ha : Is2 (k1_pay1 a l b1 b2) f) : Is3 (k1_pay2 a l b1 b2) (fun _ => f) := by
  intro i j k
  pointwise [k1_pay2]
  exact ha j k

theorem act3_real (ha : Is2 (k1_pay1 a l b1 b2) f) : Is3 (k1_pay3 a l b1 b2) (fun _ => f) := by
  intro i j k
  pointwise [k1_pay3]
  exact ha j k

/-- A running sum with the row tile's activations added. -/
theorem act4_real (ha : Is2 (k1_pay1 a l b1 b2) f) (hs : Is2 s (fun _ => σ)) :
    Is2 (k1_pay4 a l b1 b2 s) (fun _ c => σ c + ∑ r : Fin 1024, f r.val c) := by
  intro i j
  pointwise [k1_pay4]
  rw [EReal.coe_add, coe_sum]
  exact congrArg₂ (· + ·) (hs i j) (Finset.sum_congr rfl fun r _ => ha r j)

theorem act6_real (ha : Is2 (k1_pay1 a l b1 b2) f) (hs : Is2 s (fun _ => σ)) :
    Is2 (k1_pay6 a l b1 b2 s) (fun _ c => σ c + ∑ r : Fin 1024, f r.val c) := by
  intro i j
  pointwise [k1_pay6]
  rw [EReal.coe_add, coe_sum]
  exact congrArg₂ (· + ·) (hs i j) (Finset.sum_congr rfl fun r _ => ha r j)

/-- A running sum of squares with the row tile's activations added. -/
theorem act5_real (ha : Is2 (k1_pay1 a l b1 b2) f) (hs : Is2 s (fun _ => σ)) :
    Is2 (k1_pay5 a l b1 b2 s) (fun _ c => σ c + ∑ r : Fin 1024, f r.val c * f r.val c) := by
  intro i j
  pointwise [k1_pay5]
  rw [EReal.coe_add, coe_sum]
  exact congrArg₂ (· + ·) (hs i j) (Finset.sum_congr rfl fun r _ => (congrArg₂ (· * ·) (ha r j) (ha r j)).trans (EReal.coe_mul _ _).symm)

theorem act7_real (ha : Is2 (k1_pay1 a l b1 b2) f) (hs : Is2 s (fun _ => σ)) :
    Is2 (k1_pay7 a l b1 b2 s) (fun _ c => σ c + ∑ r : Fin 1024, f r.val c * f r.val c) := by
  intro i j
  pointwise [k1_pay7]
  rw [EReal.coe_add, coe_sum]
  exact congrArg₂ (· + ·) (hs i j) (Finset.sum_congr rfl fun r _ => (congrArg₂ (· * ·) (ha r j) (ha r j)).trans (EReal.coe_mul _ _).symm)

end Act

theorem pay15_real : Is2 (k1_pay15 (F := Ideal)) (fun _ _ => 0) := by
  intro i j
  pointwise [k1_pay15]
  rfl
theorem pay16_real : Is2 (k1_pay16 (F := Ideal)) (fun _ _ => 0) := by
  intro i j
  pointwise [k1_pay16]
  rfl
theorem pay17_real : Is2 (k1_pay17 (F := Ideal)) (fun _ _ => 0) := by
  intro i j
  pointwise [k1_pay17]
  rfl

end Cert.KernelIdeal.Own

end
-- ==== Proof.Value.Late.lean ====
/- An output array that is written back twice over: the later round decides. -/
module

public import Idealize.ShloMosaic.Lib.Pipeline.ValueKit

@[expose] public section

noncomputable section

namespace Cert.Region

open Idealize.ShloMosaic Idealize.ShloMosaic.TcCoe Idealize.ShloMosaic.Pipeline Idealize.SL.RA

variable {nD : ℕ} {τ : Topo} {sig : RefSig} {Val : EltTy → Type} {Ix : Type} [DecidableEq Ix] {Name : Type} [DecidableEq Name]
  {U : Type} [URA U] {Lvl : Type} {Λ₀ : Idealize.SL.Sem.Labels} {cfg : Cfg sig Λ₀} {c : Dev nD}

/-- If every point from `m` on writes back elements with a property, then every element that some point from `m` on writes has the
    property in the end: whichever point wrote it last came from `m` on as well. -/
theorem arrAt_forall_late (dat : Dat τ Val Ix Name U Lvl cfg c) (w : Fin cfg.W) (m : ℕ)
    (P : ((cfg.win w).arr.view.loc (c.tc : Thread nD τ)).2.ty.Idx → Val ((cfg.win w).arr.view.loc (c.tc : Thread nD τ)).2.ty.elt → Prop)
    (hP : ∀ t : Fin cfg.N, m ≤ t.val → (cfg.win w).flush t = true → ∀ y : ((cfg.win w).xblock (cfg.grid.coords t)).Idx,
      P (((cfg.win w).blk t).view.emb y) (_root_.cast (congrArg Val ((cfg.win w).blk t).view.elt_eq.symm) (dat.flushed w t y)))
    (t : Fin cfg.N) (hm : m ≤ t.val) (hf : (cfg.win w).flush t = true)
    (i : ((cfg.win w).arr.view.loc (c.tc : Thread nD τ)).2.ty.Idx) (hi : i ∈ ((cfg.win w).blk t).view.set) (n : ℕ) (hn : t.val < n) :
    P i (dat.arrAt w n i) := by
  induction n, hn using Nat.le_induction with
  | base =>
    rw [dat.arrAt_succ_apply, dif_pos t.isLt, if_pos hf]
    obtain ⟨y, -, rfl⟩ := Finset.mem_map.mp hi
    rw [View.write_emb_of_mem _ _ (Finset.mem_univ y)]
    exact hP t hm hf y
  | succ n hn ih =>
    rw [dat.arrAt_succ_apply]
    split_ifs with hN hfn
    · by_cases hin : i ∈ ((cfg.win w).blk ⟨n, hN⟩).view.set
      · obtain ⟨y, -, rfl⟩ := Finset.mem_map.mp hin
        rw [View.write_emb_of_mem _ _ (Finset.mem_univ y)]
        exact hP ⟨n, hN⟩ (by show m ≤ n; omega) hfn y
      · rw [View.write_of_not_mem _ _ _ (by rwa [View.setOn_univ])]
        exact ih
    · exact ih
    · exact ih

end Cert.Region

end
-- ==== Proof.Value.Region1.lean ====
/- The arrays that the fused kernel leaves, when the arrays it finds hold real numbers. -/
module

public import proofs.«01_k».proof.Proof.Value.Point1
public import proofs.«01_k».proof.Proof.Value.Late
public import proofs.«01_k».proof.Proof.KernelIdeal.Dat1

@[expose] public section

set_option maxRecDepth 16384

noncomputable section

namespace Cert.KernelIdeal.Own

open Cert.KernelIdeal Cert.KernelIdeal.Gen Cert.Net
open Idealize.ShloMosaic Idealize.ShloMosaic.TcCoe

/-- Where each window's block lies. -/
theorem idx1 : ∀ t : Fin cfg1.N, win1_0.index t = ![t.val / 4 % 2, 0, 0] ∧ win1_1.index t = ![t.val / 4 % 2, t.val % 4, 0]
    ∧ win1_2.index t = ![0, 0] ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0] ∧ win1_11.index t = ![0, 0]
    ∧ win1_12.index t = ![t.val / 4 % 2, t.val % 4, 0] ∧ win1_13.index t = ![0, 0] ∧ win1_14.index t = ![0, 0] :=
  (by decide +kernel : ∀ t : Fin grid1.N, _)

/-- Where a point of the second layer reads the first layer's activations, and the word that tells the layers apart. -/
theorem offs1 : ∀ t : Fin grid1.N, (8 ≤ t.val → k1_off1 (grid1.coords t) = ![t.val / 4 % 2, 0, 0])
    ∧ layer (grid1.coords t) = (if t.val < 8 then 1#1 else 0#1) := by decide +kernel

/-- The numbers that the region finds. -/
structure Par1 where
  y : ℕ → ℕ → ℕ → ℝ
  A : ℕ → ℕ → ℕ → ℝ
  g0 : ℕ → ℝ
  be0 : ℕ → ℝ
  W1 : ℕ → ℕ → ℝ
  b1 : ℕ → ℝ
  g1 : ℕ → ℝ
  be1 : ℕ → ℝ
  W2 : ℕ → ℕ → ℝ
  b2 : ℕ → ℝ

/-- The activations of the region's two layers. -/
def Par1.y1 (P : Par1) : ℕ → ℕ → ℕ → ℝ := conv P.A (norm P.y P.g0 P.be0) P.W1 P.b1
def Par1.y2 (P : Par1) : ℕ → ℕ → ℕ → ℝ := conv P.A (norm P.y1 P.g1 P.be1) P.W2 P.b2

/-- The projected features, the bias and the activations of the layer that point `n` belongs to. -/
def Par1.feat (P : Par1) (n : ℕ) : ℕ → ℕ → ℕ → ℝ := if n < 8 then proj (norm P.y P.g0 P.be0) P.W1 else proj (norm P.y1 P.g1 P.be1) P.W2
def Par1.bias (P : Par1) (n : ℕ) : ℕ → ℝ := if n < 8 then P.b1 else P.b2
def Par1.act (P : Par1) (n : ℕ) : ℕ → ℕ → ℕ → ℝ := if n < 8 then P.y1 else P.y2

theorem Par1.act_eq (P : Par1) (n b r k : ℕ) : max (aggr P.A (P.feat n) b r k + P.bias n k) 0 = P.act n b r k := by
  unfold Par1.feat Par1.bias Par1.act
  split_ifs <;> rfl

/-- The sum of a channel over the first `n` row tiles. -/
def tiles (f : ℕ → ℕ → ℕ → ℝ) (n k : ℕ) : ℝ := ∑ p ∈ Finset.range n, ∑ r : Fin 1024, f (p / 4) (p % 4 * 1024 + r.val) k

theorem tiles_succ (f : ℕ → ℕ → ℕ → ℝ) (n k : ℕ) : tiles f (n + 1) k = tiles f n k + ∑ r : Fin 1024, f (n / 4) (n % 4 * 1024 + r.val) k :=
  Finset.sum_range_succ _ _

theorem tiles_all (f : ℕ → ℕ → ℕ → ℝ) (k : ℕ) : tiles f 8 k = total f k := sum_tiles fun b n => f b n k

/-- What the region finds. -/
structure Found1 (V : Dev nD → Valuation τ sig (Elt Ideal)) (c : Dev nD) (P : Par1) : Prop where
  y : Is3 (V c (Proc.devRef .tc main_v1_0)) P.y
  A : Is3 (V c (Proc.devRef .tc main_v1_3)) P.A
  s1 : Is2 (V c (Proc.devRef .tc main_v1_1)) (fun _ => total P.y)
  ss1 : Is2 (V c (Proc.devRef .tc main_v1_2)) (fun _ => total fun b n k => P.y b n k * P.y b n k)
  g0 : Is2 (V c (Proc.devRef .tc main_v2)) (fun _ => P.g0)
  be0 : Is2 (V c (Proc.devRef .tc main_v3)) (fun _ => P.be0)
  W1 : Is2 (V c (Proc.devRef .tc main_arg6)) (P.W1)
  b1 : Is2 (V c (Proc.devRef .tc main_v4)) (fun _ => P.b1)
  g1 : Is2 (V c (Proc.devRef .tc main_v5)) (fun _ => P.g1)
  be1 : Is2 (V c (Proc.devRef .tc main_v6)) (fun _ => P.be1)
  W2 : Is2 (V c (Proc.devRef .tc main_arg10)) (P.W2)
  b2 : Is2 (V c (Proc.devRef .tc main_v7)) (fun _ => P.b2)

variable {V : Dev nD → Valuation τ sig (Elt Ideal)} {c : Dev nD} {P : Par1}

/-- The blocks of a point hold the arrays' parts. -/
theorem in1_yprev (H : Found1 V c P) (t : Fin cfg1.N) : Is3 (in1 V c t).yprev (fun _ => P.y (t.val / 4 % 2)) := by
  intro i j k
  show iblk1 V c 0 t (ix3 i j k) = _
  unfold iblk1
  blk_simp
  refine (H.y.at _).trans ?_
  blk_simp [idx1 t]

theorem in1_adj (H : Found1 V c P) (t : Fin cfg1.N) : Is3 (in1 V c t).adj (fun _ r m => P.A (t.val / 4 % 2) (t.val % 4 * 1024 + r) m) := by
  intro i j k
  show iblk1 V c 1 t (ix3 i j k) = _
  unfold iblk1
  blk_simp
  refine (H.A.at _).trans ?_
  blk_simp [idx1 t]

theorem in1_s1 (H : Found1 V c P) (t : Fin cfg1.N) : Is2 (in1 V c t).s1 (fun _ => total P.y) := by
  intro i j
  show iblk1 V c 2 t (ix2 i j) = _
  unfold iblk1
  blk_simp
  refine (H.s1.at _).trans ?_
  blk_simp [idx1 t]

theorem in1_ss1 (H : Found1 V c P) (t : Fin cfg1.N) : Is2 (in1 V c t).ss1 (fun _ => total fun b n k => P.y b n k * P.y b n k) := by
  intro i j
  show iblk1 V c 3 t (ix2 i j) = _
  unfold iblk1
  blk_simp
  refine (H.ss1.at _).trans ?_
  blk_simp [idx1 t]

theorem in1_g0 (H : Found1 V c P) (t : Fin cfg1.N) : Is2 (in1 V c t).g0 (fun _ => P.g0) := by
  intro i j
  show iblk1 V c 4 t (ix2 i j) = _
  unfold iblk1
  blk_simp
  refine (H.g0.at _).trans ?_
  blk_simp [idx1 t]

theorem in1_be0 (H : Found1 V c P) (t : Fin cfg1.N) : Is2 (in1 V c t).be0 (fun _ => P.be0) := by
  intro i j
  show iblk1 V c 5 t (ix2 i j) = _
  unfold iblk1
  blk_simp
  refine (H.be0.at _).trans ?_
  blk_simp [idx1 t]

theorem in1_W1 (H : Found1 V c P) (t : Fin cfg1.N) : Is2 (in1 V c t).W1 (P.W1) := by
  intro i j
  show iblk1 V c 6 t (ix2 i j) = _
  unfold iblk1
  blk_simp
  refine (H.W1.at _).trans ?_
  blk_simp [idx1 t]

theorem in1_b1 (H : Found1 V c P) (t : Fin cfg1.N) : Is2 (in1 V c t).b1 (fun _ => P.b1) := by
  intro i j
  show iblk1 V c 7 t (ix2 i j) = _
  unfold iblk1
  blk_simp
  refine (H.b1.at _).trans ?_
  blk_simp [idx1 t]

theorem in1_g1 (H : Found1 V c P) (t : Fin cfg1.N) : Is2 (in1 V c t).g1 (fun _ => P.g1) := by
  intro i j
  show iblk1 V c 8 t (ix2 i j) = _
  unfold iblk1
  blk_simp
  refine (H.g1.at _).trans ?_
  blk_simp [idx1 t]

theorem in1_be1 (H : Found1 V c P) (t : Fin cfg1.N) : Is2 (in1 V c t).be1 (fun _ => P.be1) := by
  intro i j
  show iblk1 V c 9 t (ix2 i j) = _
  unfold iblk1
  blk_simp
  refine (H.be1.at _).trans ?_
  blk_simp [idx1 t]

theorem in1_W2 (H : Found1 V c P) (t : Fin cfg1.N) : Is2 (in1 V c t).W2 (P.W2) := by
  intro i j
  show iblk1 V c 10 t (ix2 i j) = _
  unfold iblk1
  blk_simp
  refine (H.W2.at _).trans ?_
  blk_simp [idx1 t]

theorem in1_b2 (H : Found1 V c P) (t : Fin cfg1.N) : Is2 (in1 V c t).b2 (fun _ => P.b2) := by
  intro i j
  show iblk1 V c 11 t (ix2 i j) = _
  unfold iblk1
  blk_simp
  refine (H.b2.at _).trans ?_
  blk_simp [idx1 t]

/-- The two rows of the first layer's statistics. -/
def stats (f : ℕ → ℕ → ℕ → ℝ) (n i k : ℕ) : ℝ := if i = 0 then tiles f n k else tiles (fun b n k => f b n k * f b n k) n k

theorem row0_real {st : Vec Ideal S2x128 .f32} {f : ℕ → ℕ → ℕ → ℝ} {n : ℕ} (h : Is2 st (stats f n)) : Is2 (row0 st) (fun _ => tiles f n) := by
  intro i j
  have hi : i.val < 1 := i.isLt
  refine (h.window ![0, 0] rfl inb_S2x128_S1x128_0_0 i j).trans ?_
  unfold stats
  beta_reduce
  rw [show 0 + i.val = 0 by omega, if_pos rfl, Nat.zero_add]

theorem row1_real {st : Vec Ideal S2x128 .f32} {f : ℕ → ℕ → ℕ → ℝ} {n : ℕ} (h : Is2 st (stats f n)) :
    Is2 (row1 st) (fun _ => tiles (fun b n k => f b n k * f b n k) n) := by
  intro i j
  refine (h.window ![1, 0] rfl inb_S2x128_S1x128_1_0 i j).trans ?_
  unfold stats
  beta_reduce
  rw [if_neg (by omega), Nat.zero_add]

/-- What the carried state holds before point `n`. -/
structure Carried1 (P : Par1) (n : ℕ) (S : St1 Ideal) : Prop where
  h : n % 4 ≠ 0 → IsHalves S.h (P.feat n (n / 4 % 2))
  v : ∀ (b : Fin 2) (r : Fin 4096) (k : Fin 128), b.val * 4 + r.val / 1024 < n → S.v (ix3 b r k) = (P.y1 b.val r.val k.val : EReal)
  st : n ≠ 0 → Is2 S.st (stats P.y1 (min n 8))
  s : 8 < n → Is2 S.s (fun _ => tiles P.y2 (n - 8))
  ss : 8 < n → Is2 S.ss (fun _ => tiles (fun b n k => P.y2 b n k * P.y2 b n k) (n - 8))

theorem stats_zero (f : ℕ → ℕ → ℕ → ℝ) : stats f 0 = fun _ _ => 0 := by
  funext i k
  unfold stats tiles
  simp only [Finset.sum_range_zero, ite_self]

theorem stZ_real {t : Fin cfg1.N} {S : St1 Ideal} (hS : Carried1 P t.val S) : Is2 (stZ (grid1.coords t) S.st) (stats P.y1 (min t.val 8)) := by
  unfold stZ
  split_ifs with h1
  · rw [(conds1 t).1.mp h1, Nat.zero_min, stats_zero]; exact pay15_real
  · exact hS.st fun h => h1 ((conds1 t).1.mpr h)

theorem hN_real (H : Found1 V c P) (t : Fin cfg1.N) {S : St1 Ideal} (hS : Carried1 P t.val S) :
    IsHalves (hN (grid1.coords t) (in1 V c t) S) (P.feat t.val (t.val / 4 % 2)) := by
  have ht : t.val < 16 := lt_of_lt_of_eq t.isLt (show cfg1.N = 16 from N_1)
  unfold hN
  split_ifs with h3 h4
  · have h8 : t.val < 8 := by rcases (conds1 t).2.2.1.mp h3 with h | h <;> omega
    have p : Is2 (k1_pay8 (in1 V c t).s1 (in1 V c t).ss1 (in1 V c t).g0 (in1 V c t).be0 (in1 V c t).yprev (in1 V c t).W1) (P.feat t.val (t.val / 4 % 2)) := by
      unfold Par1.feat
      rw [if_pos h8]
      exact norm_proj_real (in1_s1 H t) (in1_ss1 H t) (in1_g0 H t) (in1_be0 H t) (in1_yprev H t) (in1_W1 H t)
    exact halves_real (fun i j => (pay10_eq _ _ _ _ _ _ _).trans (p i j)) (pay18_real p fun j => pay9_eq _ _ _ _ _ _ j)
  · have h8 : 8 ≤ t.val := by rcases (conds1 t).2.2.2.1.mp h4 with h | h <;> omega
    have st := hS.st (by omega)
    rw [Nat.min_eq_right h8] at st
    have e0 : Is2 (row0 S.st) (fun _ => total P.y1) := by
      have := row0_real st
      rwa [show tiles P.y1 8 = total P.y1 from funext fun k => tiles_all _ k] at this
    have e1 : Is2 (row1 S.st) (fun _ => total fun b n k => P.y1 b n k * P.y1 b n k) := by
      have := row1_real st
      rwa [show tiles (fun b n k => P.y1 b n k * P.y1 b n k) 8 = total (fun b n k => P.y1 b n k * P.y1 b n k) from funext fun k => tiles_all _ k] at this
    have v : Is3 (VecWindow.window S.v (k1_off1 (grid1.coords t)) S1x4096x128.size (k1_off1_inb (grid1.coords t) h4)) (fun _ => P.y1 (t.val / 4 % 2)) := by
      have hv : Is3 S.v P.y1 := fun b r k => hS.v b r k (by have := b.isLt; have := r.isLt; omega)
      intro i j k
      have hi : i.val < 1 := i.isLt
      refine (hv.window _ ((offs1 t).1 h8) (k1_off1_inb (grid1.coords t) h4) i j k).trans ?_
      beta_reduce
      rw [show i.val = 0 by omega, Nat.zero_add, Nat.zero_add, Nat.add_zero]
    have p : Is2 (k1_pay8 (row0 S.st) (row1 S.st) (in1 V c t).g1 (in1 V c t).be1
        (VecWindow.window S.v (k1_off1 (grid1.coords t)) S1x4096x128.size (k1_off1_inb (grid1.coords t) h4)) (in1 V c t).W2) (P.feat t.val (t.val / 4 % 2)) := by
      unfold Par1.feat
      rw [if_neg (by omega)]
      exact norm_proj_real e0 e1 (in1_g1 H t) (in1_be1 H t) v (in1_W2 H t)
    refine halves_real (fun i j => (pay13_eq _ _ _ _ _ _ _).trans (p i j)) (pay19_real (fun i j => (pay11_eq _ _ _ _ _ _ _).trans (p i j)) fun j => ?_)
    exact (pay14_eq _ _ _ _ _ _ j).trans (pay11_eq _ _ _ _ _ _ j).symm
  · refine hS.h fun h => ?_
    have a : ¬ (t.val = 0 ∨ t.val = 4) := fun h => h3 ((conds1 t).2.2.1.mpr h)
    have b : ¬ (t.val = 8 ∨ t.val = 12) := fun h => h4 ((conds1 t).2.2.2.1.mpr h)
    omega

/-- A point's activations. -/
theorem act1_real (H : Found1 V c P) (t : Fin cfg1.N) {S : St1 Ideal} (hS : Carried1 P t.val S) :
    Is2 (k1_pay1 (agg (grid1.coords t) (in1 V c t) S) (layer (grid1.coords t)) (in1 V c t).b1 (in1 V c t).b2)
      (fun r k => P.act t.val (t.val / 4 % 2) (t.val % 4 * 1024 + r) k) := by
  have a : Is2 (agg (grid1.coords t) (in1 V c t) S) (fun r k => aggr P.A (P.feat t.val) (t.val / 4 % 2) (t.val % 4 * 1024 + r) k) :=
    pay20_real (in1_adj H t) (hN_real H t hS)
  have := act_real (b1 := (in1 V c t).b1) (b2 := (in1 V c t).b2) (l := layer (grid1.coords t)) (β := P.bias t.val) a fun k => by
    rw [(offs1 t).2]
    unfold Par1.bias
    split_ifs
    · exact in1_b1 H t 0 k
    · exact in1_b2 H t 0 k
  simp only [Par1.act_eq] at this
  exact this

/-- A point keeps to it. -/
theorem step1_real (H : Found1 V c P) (t : Fin cfg1.N) {S : St1 Ideal} (hS : Carried1 P t.val S) :
    Carried1 P (t.val + 1) (stepN (grid1.coords t) (in1 V c t) S) := by
  have ht : t.val < 16 := lt_of_lt_of_eq t.isLt (show cfg1.N = 16 from N_1)
  have a := act1_real H t hS
  have z := stZ_real hS
  have h5 := (conds1 t).2.2.2.2.1
  have h6 := (conds1 t).2.2.2.2.2
  constructor
  · intro hn
    have e : P.feat (t.val + 1) ((t.val + 1) / 4 % 2) = P.feat t.val (t.val / 4 % 2) := by
      unfold Par1.feat
      rw [show (t.val + 1) / 4 % 2 = t.val / 4 % 2 by omega, if_congr (show t.val + 1 < 8 ↔ t.val < 8 by omega) rfl rfl]
    rw [e]
    exact hN_real H t hS
  · intro b r k hb
    have hb' := b.isLt
    have hr := r.isLt
    have hk : k.val < 128 := k.isLt
    dsimp only [stepN]
    by_cases h8 : t.val < 8
    · rw [if_pos (h5.mpr h8)]
      by_cases hin : b.val = t.val / 4 ∧ t.val % 4 * 1024 ≤ r.val ∧ r.val < t.val % 4 * 1024 + 1024
      · refine (put3_in _ _ (off2_eq t h8) _ b r k (0 : Fin 1) (⟨r.val - t.val % 4 * 1024, by omega⟩ : Fin 1024) k hin.1
          (by show r.val = t.val % 4 * 1024 + (r.val - t.val % 4 * 1024); omega) (Nat.zero_add _).symm).trans ?_
        refine (act3_real a _ _ _).trans ?_
        unfold Par1.act
        rw [if_pos h8]
        show (P.y1 (t.val / 4 % 2) (t.val % 4 * 1024 + (r.val - t.val % 4 * 1024)) k.val : EReal) = _
        rw [show t.val / 4 % 2 = b.val by omega, show t.val % 4 * 1024 + (r.val - t.val % 4 * 1024) = r.val by omega]
      · refine (put3_out _ _ (off2_eq t h8) _ b r k fun m => hin ⟨by omega, m.2.1⟩).trans (hS.v b r k ?_)
        omega
    · rw [if_neg fun h => h8 (h5.mp h)]
      exact hS.v b r k (by omega)
  · intro _
    dsimp only [stepN]
    by_cases h8 : t.val < 8
    · rw [if_pos (h5.mpr h8), show min (t.val + 1) 8 = t.val + 1 by omega]
      rw [show min t.val 8 = t.val by omega] at z
      have e : ∀ r k, P.act t.val (t.val / 4 % 2) (t.val % 4 * 1024 + r) k = P.y1 (t.val / 4) (t.val % 4 * 1024 + r) k := fun r k => by
        unfold Par1.act
        rw [if_pos h8, show t.val / 4 % 2 = t.val / 4 by omega]
      simp only [e] at a
      intro i k
      have hi : i.val < 2 := i.isLt
      by_cases h0 : i.val = 0
      · refine (put2_out _ _ rfl _ i k (by omega)).trans ?_
        refine (put2_in _ _ rfl _ i k (0 : Fin 1) k (by omega) (Nat.zero_add _).symm).trans ?_
        refine (act4_real a (row0_real z) _ _).trans ?_
        unfold stats
        rw [if_pos h0, tiles_succ]
      · refine (put2_in _ _ rfl _ i k (0 : Fin 1) k (by show i.val = 1 + 0; omega) (Nat.zero_add _).symm).trans ?_
        refine (act5_real a (row1_real z) _ _).trans ?_
        unfold stats
        rw [if_neg h0, tiles_succ]
    · rw [if_neg fun h => h8 (h5.mp h), show min (t.val + 1) 8 = min t.val 8 by omega]
      exact z
  · intro h8
    have h8' : 8 ≤ t.val := by omega
    dsimp only [stepN]
    rw [if_pos (h6.mpr h8'), show t.val + 1 - 8 = (t.val - 8) + 1 by omega]
    have e : ∀ r k, P.act t.val (t.val / 4 % 2) (t.val % 4 * 1024 + r) k = P.y2 ((t.val - 8) / 4) ((t.val - 8) % 4 * 1024 + r) k := fun r k => by
      unfold Par1.act
      rw [if_neg (by omega), show t.val / 4 % 2 = (t.val - 8) / 4 by omega, show t.val % 4 = (t.val - 8) % 4 by omega]
    simp only [e] at a
    show Is2 _ (fun _ k => tiles P.y2 (t.val - 8 + 1) k)
    simp only [tiles_succ]
    refine act6_real a ?_
    unfold sZ
    split_ifs with h2
    · rw [(conds1 t).2.1.mp h2]; exact pay16_real
    · exact hS.s (lt_of_le_of_ne h8' fun h => h2 ((conds1 t).2.1.mpr h.symm))
  · intro h8
    have h8' : 8 ≤ t.val := by omega
    dsimp only [stepN]
    rw [if_pos (h6.mpr h8'), show t.val + 1 - 8 = (t.val - 8) + 1 by omega]
    have e : ∀ r k, P.act t.val (t.val / 4 % 2) (t.val % 4 * 1024 + r) k = P.y2 ((t.val - 8) / 4) ((t.val - 8) % 4 * 1024 + r) k := fun r k => by
      unfold Par1.act
      rw [if_neg (by omega), show t.val / 4 % 2 = (t.val - 8) / 4 by omega, show t.val % 4 = (t.val - 8) % 4 by omega]
    simp only [e] at a
    show Is2 _ (fun _ k => tiles (fun b n k => P.y2 b n k * P.y2 b n k) (t.val - 8 + 1) k)
    simp only [tiles_succ]
    refine act7_real a ?_
    unfold ssZ
    split_ifs with h2
    · rw [(conds1 t).2.1.mp h2]; exact pay17_real
    · exact hS.ss (lt_of_le_of_ne h8' fun h => h2 ((conds1 t).2.1.mpr h.symm))

theorem carried1 (H : Found1 V c P) : ∀ n : ℕ, n ≤ cfg1.N → Carried1 P n (stAt1 V c n)
  | 0, _ => ⟨fun h => absurd rfl h, fun _ _ _ h => absurd h (Nat.not_lt_zero _), fun h => absurd rfl h, fun h => absurd h (Nat.not_lt_zero _),
      fun h => absurd h (Nat.not_lt_zero _)⟩
  | n + 1, h => by
    rw [stAt1_succ V c ⟨n, h⟩]
    exact step1_real H ⟨n, h⟩ (carried1 H n (Nat.le_of_succ_le h))

/-- The last point is the one that writes the sums back; every point writes its row tile back. -/
theorem last1 : ∀ t : Fin cfg1.N, ((cfg1.win 13).flush t = true → t.val = 15) ∧ ((cfg1.win 14).flush t = true → t.val = 15) ∧ (cfg1.win 12).flush t = true :=
  (by decide +kernel : ∀ t : Fin grid1.N, _)

/-- The array of the second layer's sums. -/
theorem out1_s (H : Found1 V c P) : Is2 ((dat1 V c).arrAt 13 cfg1.N) (fun _ => total P.y2) := by
  intro i j
  refine (dat1 V c).arrAt_forall_of_covers 13 (fun i v => v = (total P.y2 (i 1).val : EReal)) (by decide +kernel) (fun t hf y => ?_) (ix2 i j)
  blk_simp
  rw [after1_13]
  have h15 : t.val = 15 := (last1 t).1 hf
  refine (((carried1 H (t.val + 1) t.isLt).s (by omega)).at y).trans ?_
  rw [h15, tiles_all]
  blk_simp [idx1 t]

/-- The array of the second layer's sums of squares. -/
theorem out1_ss (H : Found1 V c P) : Is2 ((dat1 V c).arrAt 14 cfg1.N) (fun _ => total fun b n k => P.y2 b n k * P.y2 b n k) := by
  intro i j
  refine (dat1 V c).arrAt_forall_of_covers 14 (fun i v => v = (total (fun b n k => P.y2 b n k * P.y2 b n k) (i 1).val : EReal)) (by decide +kernel) (fun t hf y => ?_) (ix2 i j)
  blk_simp
  rw [after1_14]
  have h15 : t.val = 15 := (last1 t).2.1 hf
  refine (((carried1 H (t.val + 1) t.isLt).ss (by omega)).at y).trans ?_
  rw [h15, tiles_all]
  blk_simp [idx1 t]

/-- The array of the second layer's activations, which overwrite the first layer's. -/
theorem out1_y (H : Found1 V c P) : Is3 ((dat1 V c).arrAt 12 cfg1.N) P.y2 := by
  intro i j k
  have hi : i.val < 2 := i.isLt
  have hj : j.val < 4096 := j.isLt
  have hk : k.val < 128 := k.isLt
  have hN : cfg1.N = 16 := N_1
  obtain ⟨u, hu⟩ : ∃ u : Fin cfg1.N, u.val = 8 + i.val * 4 + j.val / 1024 := ⟨⟨8 + i.val * 4 + j.val / 1024, by rw [hN]; omega⟩, rfl⟩
  refine Cert.Region.arrAt_forall_late (dat1 V c) 12 8 (fun i v => v = (P.y2 (i 0).val (i 1).val (i 2).val : EReal)) (fun t hm hf y => ?_)
    u (by omega) (last1 _).2.2 (ix3 i j k) ?_ cfg1.N u.isLt
  · have ht : t.val < 16 := lt_of_lt_of_eq t.isLt hN
    blk_simp
    rw [after1_12]
    refine ((act2_real (act1_real H t (carried1 H t.val t.isLt.le))).at y).trans ?_
    unfold Par1.act
    rw [if_neg (by omega)]
    blk_simp [idx1 t]
  · mem_blk [idx1 _]
    show (u.val / 4 % 2 ≤ i.val ∧ i.val < u.val / 4 % 2 + 1) ∧ (u.val % 4 * 1024 ≤ j.val ∧ j.val < u.val % 4 * 1024 + 1024) ∧ 0 ≤ k.val ∧ k.val < 128
    omega

end Cert.KernelIdeal.Own

end
-- ==== Proof.Value.Region2.lean ====
/- The array that the last kernel leaves, when the arrays it finds hold real numbers; the last shift may be anything. -/
module

public import proofs.«01_k».proof.Proof.Value.Blocks
public import proofs.«01_k».proof.Proof.KernelIdeal.Dat2

@[expose] public section

set_option maxRecDepth 16384

noncomputable section

namespace Cert.KernelIdeal.Own

open Cert.KernelIdeal Cert.KernelIdeal.Gen Cert.Net
open Idealize.ShloMosaic Idealize.ShloMosaic.TcCoe

/-- Where each window's block lies. -/
theorem idx2 : ∀ t : Fin cfg2.N, win2_0.index t = ![t.val / 4, t.val % 4, 0] ∧ win2_1.index t = ![0, 0] ∧ win2_2.index t = ![0, 0]
    ∧ win2_3.index t = ![0, 0] ∧ win2_4.index t = ![0, 0] ∧ win2_5.index t = ![t.val / 4, t.val % 4, 0] := (by decide +kernel : ∀ t : Fin grid2.N, _)

/-- Adding a shift less a real is adding the real's negative and then the shift. -/
theorem shift_last (x m : ℝ) (s : EReal) : (x : EReal) + (s - (m : EReal)) = ((x + -m : ℝ) : EReal) + s := by
  rw [EReal.coe_add, EReal.coe_neg, sub_eq_add_neg, add_comm s, add_assoc]

/-- The normalisation of a row tile, with any shift. -/
theorem apply_real {s q g be : Vec Ideal S1x128 .f32} {y : Vec Ideal S1x1024x128 .f32} {f : ℕ → ℕ → ℕ → ℝ} {γ : ℕ → ℝ} {b o : ℕ}
    (hs : Is2 s (fun _ => total f)) (hq : Is2 q (fun _ => total fun b n c => f b n c * f b n c)) (hg : Is2 g (fun _ => γ))
    (hy : Is3 y (fun _ r c => f b (o + r) c)) (j : S1x1024x128.Idx) :
    k2_pay1 s q g be y j = ((scaled f γ b (o + (j 1).val) (j 2).val : ℝ) : EReal) + be (ix2 (0 : Fin 1) (⟨(j 2).val, (j 2).isLt⟩ : Fin 128)) := by
  obtain ⟨i, r, k, rfl⟩ : ∃ (i : Fin 1) (r : Fin 1024) (k : Fin 128), j = ix3 i r k := ⟨_, _, _, eq_ix3 j⟩
  pointwise [k2_pay1]
  rw [hs 0 k, hq 0 k, hg 0 k, hy 0 r k, scale_real _ _ _ (sums_pos f k.val), lit_8192th]
  have e : scaled f γ b (o + r.val) k.val
      = f b (o + r.val) k.val * (γ k.val * (Real.sqrt (total (fun b n c => f b n c * f b n c) k.val / 8192 - total f k.val / 8192 * (total f k.val / 8192) + eps))⁻¹)
        + -(total f k.val * (1 / 8192) * (γ k.val * (Real.sqrt (total (fun b n c => f b n c * f b n c) k.val / 8192 - total f k.val / 8192 * (total f k.val / 8192) + eps))⁻¹)) := by
    have := norm_real f γ (fun _ => 0) b (o + r.val) k.val
    unfold Cert.Net.norm at this
    linarith
  rw [e, ← EReal.coe_mul, ← EReal.coe_mul, ← EReal.coe_mul]
  exact shift_last _ _ _

/-- What the region finds. -/
structure Found2 (V : Dev nD → Valuation τ sig (Elt Ideal)) (c : Dev nD) (y : ℕ → ℕ → ℕ → ℝ) (γ : ℕ → ℝ) : Prop where
  hy : Is3 (V c (Proc.devRef .tc main_v8_0)) y
  hs : Is2 (V c (Proc.devRef .tc main_v8_1)) (fun _ => total y)
  hss : Is2 (V c (Proc.devRef .tc main_v8_2)) (fun _ => total fun b n k => y b n k * y b n k)
  hγ : Is2 (V c (Proc.devRef .tc main_v9)) (fun _ => γ)

variable {V : Dev nD → Valuation τ sig (Elt Ideal)} {c : Dev nD} {y : ℕ → ℕ → ℕ → ℝ} {γ : ℕ → ℝ}

/-- The blocks of a point hold the arrays' parts. -/
theorem in2_y (H : Found2 V c y γ) (t : Fin cfg2.N) : Is3 (a := 1) (b := 1024) (c := 128) (iblk2 V c 0 t) (fun _ r k => y (t.val / 4) (t.val % 4 * 1024 + r) k) := by
  intro i j k
  unfold iblk2
  blk_simp
  refine (H.hy.at _).trans ?_
  blk_simp [idx2 t]

theorem in2_s (H : Found2 V c y γ) (t : Fin cfg2.N) : Is2 (a := 1) (b := 128) (iblk2 V c 1 t) (fun _ => total y) := by
  intro i j
  unfold iblk2
  blk_simp
  refine (H.hs.at _).trans ?_
  blk_simp [idx2 t]

theorem in2_ss (H : Found2 V c y γ) (t : Fin cfg2.N) : Is2 (a := 1) (b := 128) (iblk2 V c 2 t) (fun _ => total fun b n k => y b n k * y b n k) := by
  intro i j
  unfold iblk2
  blk_simp
  refine (H.hss.at _).trans ?_
  blk_simp [idx2 t]

theorem in2_g (H : Found2 V c y γ) (t : Fin cfg2.N) : Is2 (a := 1) (b := 128) (iblk2 V c 3 t) (fun _ => γ) := by
  intro i j
  unfold iblk2
  blk_simp
  refine (H.hγ.at _).trans ?_
  blk_simp [idx2 t]

theorem in2_be (t : Fin cfg2.N) (i : Fin 1) (j : Fin 128) : iblk2 V c 4 t (ix2 i j) = V c (Proc.devRef .tc main_v10) (ix2 i j) := by
  unfold iblk2
  blk_ext [idx2 t]

/-- The result's array. -/
theorem out2 (H : Found2 V c y γ) (i : S2x4096x128.Idx) :
    (dat2 V c).arrAt 5 cfg2.N i = ((scaled y γ (i 0).val (i 1).val (i 2).val : ℝ) : EReal) + V c (Proc.devRef .tc main_v10) (ix2 (0 : Fin 1) (⟨(i 2).val, (i 2).isLt⟩ : Fin 128)) := by
  refine (dat2 V c).arrAt_forall_of_covers 5 (fun i v => v = ((scaled y γ (i 0).val (i 1).val (i 2).val : ℝ) : EReal)
    + V c (Proc.devRef .tc main_v10) (ix2 (0 : Fin 1) (⟨(i 2).val, (i 2).isLt⟩ : Fin 128))) (by decide +kernel) (fun t hf y => ?_) i
  blk_simp
  rw [after2_5]
  refine (apply_real (in2_s H t) (in2_ss H t) (in2_g H t) (in2_y H t) y).trans ?_
  refine congrArg₂ (· + ·) ?_ ?_
  · blk_simp [idx2 t]
  · refine (in2_be t _ _).trans ?_
    blk_ext [idx2 t]

end Cert.KernelIdeal.Own

end
-- ==== Proof.Value.Chain.lean ====
/- The array that the whole program leaves, from real arguments: the three regions one after another. -/
module

public import proofs.«01_k».proof.Proof.Value.Precondition
public import proofs.«01_k».proof.Proof.Value.Region0
public import proofs.«01_k».proof.Proof.Value.Region1
public import proofs.«01_k».proof.Proof.Value.Region2
public import proofs.«01_k».proof.Proof.KernelIdeal.Run
public import Idealize.ShloMosaic.Lib.ValueLayout

@[expose] public section

set_option maxRecDepth 16384

noncomputable section

namespace Cert.KernelIdeal.Own

open Cert.KernelIdeal Cert.KernelIdeal.Gen Cert.Net
open Idealize.ShloMosaic Idealize.ShloMosaic.TcCoe Idealize.SL.Sem

/-! ### The vectors that the host lays out as rows -/

/-- A row holds the vector it was cast from. -/
theorem row_is {x : (⟨1, ![128]⟩ : Shape).Idx → EReal} {f : ℕ → ℝ} (h : Is1 x f) (hs : (⟨1, ![128]⟩ : Shape).ShapeCasts ⟨2, ![1, 128]⟩) :
    Is2 (shapeCast ⟨2, ![1, 128]⟩ x hs) (fun _ => f) := fun i j => by
  exact (ValueIdx.shapeCast_a_1a_apply x hs i j).trans (h j)

section rows

variable (V : Valuation τ sig (Elt Ideal))

theorem row_v0 : StableHlo.after hostOps0 V (Proc.devRef .tc main_v0) = shapeCast S1x128 (V (Proc.devRef .tc main_arg3)) shapeCasts_S128_S1x128 := rfl
theorem row_v2 : StableHlo.after hostOps1 V (Proc.devRef .tc main_v2) = shapeCast S1x128 (V (Proc.devRef .tc main_arg4)) shapeCasts_S128_S1x128 := rfl
theorem row_v3 : StableHlo.after hostOps1 V (Proc.devRef .tc main_v3) = shapeCast S1x128 (V (Proc.devRef .tc main_arg5)) shapeCasts_S128_S1x128 := rfl
theorem row_v4 : StableHlo.after hostOps1 V (Proc.devRef .tc main_v4) = shapeCast S1x128 (V (Proc.devRef .tc main_arg7)) shapeCasts_S128_S1x128 := rfl
theorem row_v5 : StableHlo.after hostOps1 V (Proc.devRef .tc main_v5) = shapeCast S1x128 (V (Proc.devRef .tc main_arg8)) shapeCasts_S128_S1x128 := rfl
theorem row_v6 : StableHlo.after hostOps1 V (Proc.devRef .tc main_v6) = shapeCast S1x128 (V (Proc.devRef .tc main_arg9)) shapeCasts_S128_S1x128 := rfl
theorem row_v7 : StableHlo.after hostOps1 V (Proc.devRef .tc main_v7) = shapeCast S1x128 (V (Proc.devRef .tc main_arg11)) shapeCasts_S128_S1x128 := rfl
theorem row_v9 : StableHlo.after hostOps2 V (Proc.devRef .tc main_v9) = shapeCast S1x128 (V (Proc.devRef .tc main_arg12)) shapeCasts_S128_S1x128 := rfl
theorem row_v10 : StableHlo.after hostOps2 V (Proc.devRef .tc main_v10) = shapeCast S1x128 (V (Proc.devRef .tc main_arg13)) shapeCasts_S128_S1x128 := rfl

end rows

/-! ### What each region finds -/

variable {m : (ℓ : Loc nD τ sig) → Buf (Elt Ideal) ℓ} {c : Dev nD}

/-- An argument as every stage finds it. -/
theorem arg_at3 (r : Ref sig .tc) (h0 : r ∉ hostOps0_W) (h1 : r ∉ ([main_v1_0, main_v1_1, main_v1_2, main_v1_3] : List (Ref sig .tc))) :
    W2 m c (Proc.devRef .tc r) = W0 m c (Proc.devRef .tc r) := (W2_of m c r h1).trans (W1_of m c r h0)
theorem arg_at5 (r : Ref sig .tc) (h0 : r ∉ hostOps0_W) (h1 : r ∉ ([main_v1_0, main_v1_1, main_v1_2, main_v1_3] : List (Ref sig .tc)))
    (h2 : r ∉ hostOps1_W) (h3 : r ∉ ([main_v8_0, main_v8_1, main_v8_2] : List (Ref sig .tc))) :
    W4 m c (Proc.devRef .tc r) = W0 m c (Proc.devRef .tc r) := ((W4_of m c r h3).trans (W3_of m c r h2)).trans (arg_at3 r h0 h1)

variable {N : Params}

/-- What the first region finds. -/
theorem found0 (H : RealArgs (W0 m c) N) : Found0 (W1 m) c N.x N.A N.W0 N.b0 where
  x := by rw [W1_of m c main_arg0 (by decide)]; exact H.a0
  A := by rw [W1_of m c main_arg1 (by decide)]; exact H.a1
  W := by rw [W1_of m c main_arg2 (by decide)]; exact H.a2
  β := by unfold W1; rw [row_v0]; exact row_is H.a3 _

/-- The fused region's arguments. -/
def par1 (N : Params) : Par1 where
  y := N.y0
  A := loops N.A
  g0 := N.g0
  be0 := N.e0
  W1 := N.W1
  b1 := N.b1
  g1 := N.g1
  be1 := N.e1
  W2 := N.W2
  b2 := N.b2

/-- What the fused region finds. -/
theorem found1 (H : RealArgs (W0 m c) N) : Found1 (W3 m) c (par1 N) where
  y := by rw [W3_of m c main_v1_0 (by decide), W2_main_v1_0]; exact out0_y (found0 H)
  A := by rw [W3_of m c main_v1_3 (by decide), W2_main_v1_3]; exact out0_adj (found0 H)
  s1 := by rw [W3_of m c main_v1_1 (by decide), W2_main_v1_1]; exact out0_s (found0 H)
  ss1 := by rw [W3_of m c main_v1_2 (by decide), W2_main_v1_2]; exact out0_ss (found0 H)
  g0 := by unfold W3; rw [row_v2, arg_at3 main_arg4 (by decide) (by decide)]; exact row_is H.a4 _
  be0 := by unfold W3; rw [row_v3, arg_at3 main_arg5 (by decide) (by decide)]; exact row_is H.a5 _
  W1 := by rw [W3_of m c main_arg6 (by decide), arg_at3 main_arg6 (by decide) (by decide)]; exact H.a6
  b1 := by unfold W3; rw [row_v4, arg_at3 main_arg7 (by decide) (by decide)]; exact row_is H.a7 _
  g1 := by unfold W3; rw [row_v5, arg_at3 main_arg8 (by decide) (by decide)]; exact row_is H.a8 _
  be1 := by unfold W3; rw [row_v6, arg_at3 main_arg9 (by decide) (by decide)]; exact row_is H.a9 _
  W2 := by rw [W3_of m c main_arg10 (by decide), arg_at3 main_arg10 (by decide) (by decide)]; exact H.a10
  b2 := by unfold W3; rw [row_v7, arg_at3 main_arg11 (by decide) (by decide)]; exact row_is H.a11 _

/-- The fused region's two activations are the network's. -/
theorem par1_y1 : (par1 N).y1 = N.y1 := rfl
theorem par1_y2 : (par1 N).y2 = N.y2 := by
  unfold Par1.y2 Params.y2
  rw [par1_y1]; rfl

/-- What the last region finds. -/
theorem found2 (H : RealArgs (W0 m c) N) : Found2 (W5 m) c N.y2 N.g2 where
  hy := by rw [W5_of m c main_v8_0 (by decide), W4_main_v8_0, ← par1_y2]; exact out1_y (found1 H)
  hs := by rw [W5_of m c main_v8_1 (by decide), W4_main_v8_1, ← par1_y2]; exact out1_s (found1 H)
  hss := by rw [W5_of m c main_v8_2 (by decide), W4_main_v8_2, ← par1_y2]; exact out1_ss (found1 H)
  hγ := by unfold W5; rw [row_v9, arg_at5 main_arg12 (by decide) (by decide) (by decide) (by decide)]; exact row_is H.a12 _

/-- The program's result: the third layer's activations, normalised, and the last shift as it is. -/
theorem result_real (H : RealArgs (W0 m c) N) (i : S2x4096x128.Idx) :
    W6 m c (Proc.devRef .tc main_v11) i
      = ((scaled N.y2 N.g2 (i 0).val (i 1).val (i 2).val : ℝ) : EReal) + W0 m c (Proc.devRef .tc main_arg13) (ix1 (⟨(i 2).val, (i 2).isLt⟩ : Fin 128)) := by
  rw [W6_main_v11, out2 (found2 H)]
  refine congrArg (_ + ·) ?_
  unfold W5
  rw [row_v10, arg_at5 main_arg13 (by decide) (by decide) (by decide) (by decide)]
  exact ValueIdx.shapeCast_a_1a_apply _ _ _ _

end Cert.KernelIdeal.Own
end
-- ==== Proof.Value.Reference.lean ====
/- The reference's result on real arguments: three times a graph convolution and a batch normalisation. -/
module

public import proofs.«01_k».proof.Proof.Value.Finite
public import proofs.«01_k».proof.Proof.Gen.ReferenceIdeal.Read
public import Idealize.ShloMosaic.Lib.IdealHost

@[expose] public section

set_option maxRecDepth 16384

noncomputable section

namespace Cert.ReferenceIdeal.Own

open Cert.ReferenceIdeal Cert.ReferenceIdeal.Gen Cert.ReferenceIdeal.Read Cert.Net
open Idealize.ShloMosaic Idealize.ShloMosaic.TcCoe

/-- An array of extended reals of a shape. -/
abbrev Arr (S : Shape) := (⟨S, .f32⟩ : BufTy).Contents (Elt Ideal)

/-! ### Numbers -/

theorem lit_zero : Ideal.ofBits FTy.f32 0#32 = ((0 : ℝ) : EReal) := by
  simp [Ideal.ofBits, Ideal.ieee]

theorem lit_one : Ideal.ofBits FTy.f32 0x3F800000#32 = ((1 : ℝ) : EReal) := by
  simp [Ideal.ofBits, Ideal.ieee]; norm_num
  rw [← EReal.coe_mul]; norm_num

/-- A real divided by a real that is not zero. -/
theorem div_real (x : ℝ) {y : ℝ} (hy : y ≠ 0) : Ideal.div (x : EReal) (y : EReal) = ((x / y : ℝ) : EReal) := by
  unfold Ideal.div
  rw [if_neg (by exact_mod_cast hy), div_eq_mul_inv, EReal.coe_mul, EReal.coe_inv]

/-- The root of a positive real. -/
theorem sqrt_real {v : ℝ} (hv : 0 < v) : Ideal.sqrt (v : EReal) = (Real.sqrt v : EReal) := by
  show (if v < 0 then ⊥ else (Real.sqrt v : EReal)) = _
  rw [if_neg (not_lt.mpr hv.le)]

/-! ### Sums over the batches and the nodes -/

/-- A sum over the indices of three axes is three sums. -/
theorem sum_three {a b c : ℕ} (f : (⟨3, ![a, b, c]⟩ : Shape).Idx → EReal) :
    ∑ i, f i = ∑ p : Fin a, ∑ n : Fin b, ∑ k : Fin c, f (ix3 p n k) := by
  have e : ∀ i : (⟨3, ![a, b, c]⟩ : Shape).Idx, ix3 (i 0 : Fin a) (i 1 : Fin b) (i 2 : Fin c) = i := fun i => (eq_ix3 i).symm
  rw [Fintype.sum_equiv (⟨fun i => (i 0, i 1, i 2), fun t => ix3 t.1 t.2.1 t.2.2, e, fun _ => rfl⟩ :
      (⟨3, ![a, b, c]⟩ : Shape).Idx ≃ Fin a × Fin b × Fin c) f (fun t => f (ix3 t.1 t.2.1 t.2.2)) (fun i => congrArg f (e i).symm),
    Fintype.sum_prod_type]
  exact Finset.sum_congr rfl fun p _ => Fintype.sum_prod_type _

/-- The reduction over the batches and the nodes of real numbers is a channel's total. -/
theorem reduce_real {x : Arr S2x4096x128} {z : Arr S_} {f : ℕ → ℕ → ℕ → ℝ} (hx : Is3 x f) (hz : ∀ i, z i = ((0 : ℝ) : EReal)) (j : S128.Idx) :
    Host.reduceAdd (F := Ideal) (φ := .f32) x z reducesTo_S2x4096x128_S128_d0_1 h_S_ j = ((total f (j 0).val : ℝ) : EReal) := by
  rw [ValueIdx.hostReduceAdd_apply, hz]
  unfold Ideal.hostReduceAdd
  have hd : ∀ (p : Fin 2) (n : Fin 4096) (k : Fin 128), (reducesTo_S2x4096x128_S128_d0_1.drop (ix3 p n k) = j) ↔ k = (⟨(j 0).val, (j 0).isLt⟩ : Fin 128) := fun p n k => by
    have hv : (reducesTo_S2x4096x128_S128_d0_1.drop (ix3 p n k) 0 : Nat) = k.val := Shape.ReducesTo.drop_apply_val _ _ 0
    constructor
    · intro e; rw [e] at hv; exact Fin.ext hv.symm
    · intro e; funext b; have hb : b = 0 := Subsingleton.elim _ _; subst hb; exact Fin.ext (hv.trans (congrArg Fin.val e))
  rw [Finset.sum_filter, sum_three, EReal.coe_zero, zero_add]
  unfold total
  rw [coe_sum]
  refine Finset.sum_congr rfl fun p _ => ?_
  rw [coe_sum]
  refine Finset.sum_congr rfl fun n _ => ?_
  rw [Finset.sum_congr rfl fun k _ => if_congr (hd p n k) rfl rfl]
  rw [Finset.sum_ite_eq' Finset.univ (⟨(j 0).val, (j 0).isLt⟩ : Fin 128) (fun k => x (ix3 p n k)), if_pos (Finset.mem_univ _)]
  exact hx _ _ _

/-! ### The layer -/

section layer

variable {x0 : Arr S2x4096x128} {x1 : Arr S2x4096x4096} {x2 : Arr S128x128} {x3 x4 : Arr S128}
  {x A : ℕ → ℕ → ℕ → ℝ} {W : ℕ → ℕ → ℝ} {β γ : ℕ → ℝ}

/-- The adjacency with its loops. -/
theorem loops_real (hA : Is3 x1 A) : Is3 (val_main_v5 (F := Ideal) x1) (loops A) := fun p n m => by
  rw [val_main_v5_apply, val_main_call0_v1_apply, val_main_v4_apply, val_main_v3_apply, val_main_v0_apply, val_main_v1_apply,
    val_main_v2_apply, val_main_c_apply, val_main_call0_v2_apply, val_main_call0_v0_apply, val_main_cst_apply]
  have h0 : IntOp.addi (BitVec.ofNat 32 (idx_main_call0_v1 (ix3 p n m) 0).val) (0#32) = BitVec.ofNat 32 n.val := BitVec.add_zero _
  rw [h0, hA p n m]
  refine (select_eq (a := n.val) (b := m.val) (by omega) (by omega) _ _).trans ?_
  unfold loops
  split
  · exact lit_one
  · rfl

/-- The features times the weights. -/
theorem proj_real (hx : Is3 x0 x) (hW : Is2 x2 W) : Is3 (val_main_v6 (F := Ideal) x0 x2) (proj x W) := fun p n c => by
  rw [val_main_v6_apply]
  unfold proj
  rw [coe_sum]
  refine Finset.sum_congr rfl fun k _ => ?_
  rw [hx.at, hW.at, EReal.coe_mul]; rfl

/-- The convolution. -/
theorem conv_real (hx : Is3 x0 x) (hA : Is3 x1 A) (hW : Is2 x2 W) (hb : Is1 x3 β) :
    Is3 (val_main_v11 (F := Ideal) x0 x1 x2 x3) (conv (loops A) x W β) := fun p n c => by
  rw [val_main_v11_apply, val_main_v10_apply, val_main_v7_apply, val_main_v9_apply, val_main_v8_apply, hb.at,
    val_main_call1_v0_apply, val_main_call1_cst_apply]
  unfold conv aggr
  rw [coe_max, EReal.coe_add, coe_sum, ← lit_zero]
  refine congrArg (fun s => max (s + _) _) (Finset.sum_congr rfl fun k _ => ?_)
  rw [(loops_real hA).at, (proj_real hx hW).at, EReal.coe_mul]; rfl

variable {y : ℕ → ℕ → ℕ → ℝ}

/-- The mean of a channel. -/
theorem mean_real (hy : Is3 (val_main_v11 (F := Ideal) x0 x1 x2 x3) y) (i : S1x1x128.Idx) :
    val_main_v15 (F := Ideal) x0 x1 x2 x3 i = ((mean y (i 2).val : ℝ) : EReal) := by
  rw [val_main_v15_apply, val_main_v13_apply, val_main_v14_apply, val_main_cst_1_apply]
  unfold val_main_v12
  rw [reduce_real (z := val_main_cst_0 (F := Ideal)) hy fun _ => lit_zero]
  exact (congrArg (Ideal.div _) lit_8192).trans (div_real _ (by norm_num))

/-- The variance of a channel. -/
theorem var_real (hy : Is3 (val_main_v11 (F := Ideal) x0 x1 x2 x3) y) (i : S1x1x128.Idx) :
    val_main_v16 (F := Ideal) x0 x1 x2 x3 i = ((var y (i 2).val : ℝ) : EReal) := by
  have hm : ∀ i, val_main_call2_v3 (F := Ideal) x0 x1 x2 x3 i = ((mean y (i 2).val : ℝ) : EReal) := mean_real hy
  have hs : Is3 (val_main_call2_v6 (F := Ideal) x0 x1 x2 x3) (fun b n c => (y b n c - mean y c) * (y b n c - mean y c)) := fun p n c => by
    rw [val_main_call2_v6_apply, val_main_call2_v5_apply, val_main_call2_v4_apply, hm, hy p n c]
    rw [EReal.coe_mul, EReal.coe_sub]; rfl
  have h8 : ∀ i, val_main_call2_v8 (F := Ideal) i = ((8192 : ℝ) : EReal) := fun i => by
    rw [val_main_call2_v8_apply, val_main_call2_cst_1_apply, val_main_call2_v7_apply, val_main_c_2_apply]
    show Ideal.ofBits FTy.f32 1174405120#32 - (((0#32 : BitVec 32).toInt : ℝ) : EReal) = _
    rw [lit_8192]; simp
  have hc : ∀ j, broadcastInDim S1x1x128 ![] bcast_S_S1x1x128 (val_main_call2_v13 (F := Ideal)) j = 1#1 := fun j => by
    rw [broadcastInDim_apply _ bcast_S_S1x1x128 (val_main_call2_v13 (F := Ideal)) j (fun a => a.elim0) (fun a => a.elim0),
      val_main_call2_v13_apply, h8, val_main_call2_cst_3_apply]
    show BitVec.ofBool (decide (Ideal.ofBits FTy.f32 0#32 < ((8192 : ℝ) : EReal))) = 1#1
    rw [lit_zero, decide_eq_true (by exact_mod_cast (by norm_num : (0 : ℝ) < 8192))]; rfl
  unfold val_main_v16
  show Scalar.select (broadcastInDim S1x1x128 ![] bcast_S_S1x1x128 (val_main_call2_v13 (F := Ideal)) i) _ _ = _
  rw [hc]
  show val_main_call2_v12 (F := Ideal) x0 x1 x2 x3 i = _
  rw [val_main_call2_v12_apply, val_main_call2_v10_apply, val_main_call2_v11_apply, h8]
  unfold val_main_call2_v9
  rw [reduce_real (z := val_main_call2_cst_2 (F := Ideal)) hs fun _ => lit_zero]
  exact div_real _ (by norm_num)

/-- A layer's result before its last addition. -/
theorem scaled_real (hy : Is3 (val_main_v11 (F := Ideal) x0 x1 x2 x3) y) (hg : Is1 x4 γ) (i : S2x4096x128.Idx) :
    val_main_v26 (F := Ideal) x0 x1 x2 x3 x4 i = ((scaled y γ (i 0).val (i 1).val (i 2).val : ℝ) : EReal) := by
  rw [val_main_v26_apply, val_main_v21_apply, val_main_v20_apply, val_main_v19_apply, hg.at, val_main_v18_apply, hy.at,
    val_main_v17_apply, mean_real hy, val_main_v25_apply, val_main_v24_apply, val_main_v23_apply, var_real hy, val_main_v22_apply, val_main_cst_3_apply]
  show Ideal.div (((γ (i 2).val : ℝ) : EReal) * (((y (i 0).val (i 1).val (i 2).val : ℝ) : EReal) - ((mean y (i 2).val : ℝ) : EReal)))
    (Ideal.sqrt (((var y (i 2).val : ℝ) : EReal) + Ideal.ofBits FTy.f32 925353388#32)) = _
  rw [lit_eps, ← EReal.coe_add, sqrt_real (shifted_pos y _), ← EReal.coe_sub, ← EReal.coe_mul,
    div_real _ (Real.sqrt_pos.mpr (shifted_pos y _)).ne']
  unfold scaled
  exact congrArg Real.toEReal (by ring)

/-- A layer's result, whatever its last shift. -/
theorem layer_real (hx : Is3 x0 x) (hA : Is3 x1 A) (hW : Is2 x2 W) (hb : Is1 x3 β) (hg : Is1 x4 γ) (x5 : Arr S128) (i : S2x4096x128.Idx) :
    val_main_v29 (F := Ideal) x0 x1 x2 x3 x4 x5 i
      = ((scaled (conv (loops A) x W β) γ (i 0).val (i 1).val (i 2).val : ℝ) : EReal) + x5 (ix1 (⟨(i 2).val, (i 2).isLt⟩ : Fin 128)) := by
  rw [val_main_v29_apply, scaled_real (conv_real hx hA hW hb) hg, val_main_v28_apply, val_main_v27_apply]
  exact congrArg (_ + x5 ·) (eq_ix1 _)

/-- A layer's result with a real shift. -/
theorem layer_norm {x5 : Arr S128} {δ : ℕ → ℝ} (hx : Is3 x0 x) (hA : Is3 x1 A) (hW : Is2 x2 W) (hb : Is1 x3 β) (hg : Is1 x4 γ) (hd : Is1 x5 δ) :
    Is3 (val_main_v29 (F := Ideal) x0 x1 x2 x3 x4 x5) (Cert.Net.norm (conv (loops A) x W β) γ δ) := fun p n c => by
  rw [layer_real hx hA hW hb hg, hd.at, ← EReal.coe_add]; rfl

end layer

/-! ### The three layers -/

/-- The second layer is the first on the first's result. -/
theorem second (x0 : Arr S2x4096x128) (x1 : Arr S2x4096x4096) (x2 : Arr S128x128) (x3 x4 x5 : Arr S128) (x6 : Arr S128x128) (x7 x8 x9 : Arr S128) :
    val_main_v59 x0 x1 x2 x3 x4 x5 x6 x7 x8 x9 = val_main_v29 (val_main_v29 x0 x1 x2 x3 x4 x5) x1 x6 x7 x8 x9 := rfl

/-- The third layer is the first on the second's result. -/
theorem third (x0 : Arr S2x4096x128) (x1 : Arr S2x4096x4096) (x2 : Arr S128x128) (x3 x4 x5 : Arr S128) (x6 : Arr S128x128) (x7 x8 x9 : Arr S128)
    (x10 : Arr S128x128) (x11 x12 x13 : Arr S128) :
    val_main_v89 x0 x1 x2 x3 x4 x5 x6 x7 x8 x9 x10 x11 x12 x13
      = val_main_v29 (val_main_v59 x0 x1 x2 x3 x4 x5 x6 x7 x8 x9) x1 x10 x11 x12 x13 := rfl

/-- The reference's result on real arguments; the last shift may be anything. -/
theorem result_real {x0 : Arr S2x4096x128} {x1 : Arr S2x4096x4096} {x2 x6 x10 : Arr S128x128} {x3 x4 x5 x7 x8 x9 x11 x12 : Arr S128}
    {x A : ℕ → ℕ → ℕ → ℝ} {W0 W1 W2 : ℕ → ℕ → ℝ} {b0 g0 e0 b1 g1 e1 b2 g2 : ℕ → ℝ}
    (h0 : Is3 x0 x) (h1 : Is3 x1 A) (h2 : Is2 x2 W0) (h3 : Is1 x3 b0) (h4 : Is1 x4 g0) (h5 : Is1 x5 e0)
    (h6 : Is2 x6 W1) (h7 : Is1 x7 b1) (h8 : Is1 x8 g1) (h9 : Is1 x9 e1) (h10 : Is2 x10 W2) (h11 : Is1 x11 b2) (h12 : Is1 x12 g2)
    (x13 : Arr S128) (i : S2x4096x128.Idx) :
    val_main_v89 (F := Ideal) x0 x1 x2 x3 x4 x5 x6 x7 x8 x9 x10 x11 x12 x13 i
      = ((scaled (conv (loops A) (Cert.Net.norm (conv (loops A) (Cert.Net.norm (conv (loops A) x W0 b0) g0 e0) W1 b1) g1 e1) W2 b2) g2
            (i 0).val (i 1).val (i 2).val : ℝ) : EReal) + x13 (ix1 (⟨(i 2).val, (i 2).isLt⟩ : Fin 128)) := by
  rw [third, second]
  exact layer_real (layer_norm (layer_norm h0 h1 h2 h3 h4 h5) h1 h6 h7 h8 h9) h1 h10 h11 h12 x13 i

end Cert.ReferenceIdeal.Own
end
-- ==== Proof.Algebraic.lean ====
/- The kernel and the reference over the reals end with the same result, when the arguments but the last shift are finite. -/
module

public import proofs.«01_k».proof.Proof.Value.Chain
public import proofs.«01_k».proof.Proof.Value.Reference
public import proofs.«01_k».proof.Proof.Gen.Pre_finite_inputs
public import Idealize.ShloMosaic.Lib.Claim

@[expose] public section

set_option maxRecDepth 16384

noncomputable section

namespace Cert.Proof

open Idealize.ShloMosaic Idealize.ShloMosaic.TcCoe Idealize.SL.Sem Cert.Net

/-- The reference's launch holds the kernel's arguments. -/
abbrev SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

/-- The reference's result is the kernel's. -/
theorem result_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} {N : Params}
    (H : Cert.KernelIdeal.Own.RealArgs (fun b => m (c, b)) N) (hm : SameArgs m m' c) :
    Cert.ReferenceIdeal.Read.val_main_v89 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
      = Cert.KernelIdeal.Own.W6 m c (Proc.devRef .tc Cert.KernelIdeal.main_v11) := by
  obtain ⟨e0, e1, e2, e3, e4, e5, e6, e7, e8, e9, e10, e11, e12, e13⟩ := hm
  rw [e0, e1, e2, e3, e4, e5, e6, e7, e8, e9, e10, e11, e12, e13]
  funext i
  refine (Cert.ReferenceIdeal.Own.result_real H.a0 H.a1 H.a2 H.a3 H.a4 H.a5 H.a6 H.a7 H.a8 H.a9 H.a10 H.a11 H.a12 _ i).trans ?_
  exact (Cert.KernelIdeal.Own.result_real H i).symm

/-- Over the reals the kernel and the reference, launched on the same arguments, end with the same result. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := fun m g m' g' hp hm =>
  ⟨fun c => Cert.KernelIdeal.Own.W6 m c (Proc.devRef .tc Cert.KernelIdeal.main_v11), Cert.KernelIdeal.Own.run_result m g,
    (θ_run _ _ _).mono (fun r h c => by
      obtain ⟨N, H⟩ := Cert.KernelIdeal.Own.realArgs_of_pre hp c
      refine ⟨((h c).1.trans (Cert.ReferenceIdeal.Read.val_main_v89_eq _)).trans (result_eq H (hm c)), (h c).2⟩) (Cert.ReferenceIdeal.Value.run m' g')⟩

end Cert.Proof
end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem Cert.Kernel

/-- Every claim about the programs. -/
theorem claim : Cert.Claim := ⟨Cert.Kernel.Gen.facts, Cert.KernelIdeal.Gen.facts, Cert.ReferenceIdeal.Gen.facts, Cert.Pre_finite_inputs.Gen.facts,
  frame_kernel, frame_kernelIdeal, fun m g _ => frame_kernelIdeal m g trivial, frame_reference, fun m g _ => frame_reference m g trivial, trivial, algebraic⟩

end Cert.Proof

end
